-- ==== Defs.lean ====
def Pre_Kernel [hPre_in_field : Cert.Pre_in_field.Facts] (m : (ℓ : Loc Cert.Kernel.nD Cert.Kernel.τ Cert.Kernel.sig) → Buf (Elt Bits) ℓ) : Prop :=
  ∀ c : Dev Cert.Kernel.nD,
    (Cert.Pre_in_field.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_field : Cert.Pre_in_field.Facts] (m : (ℓ : Loc Cert.KernelIdeal.nD Cert.KernelIdeal.τ Cert.KernelIdeal.sig) → Buf (Elt Ideal) ℓ) : Prop :=
  ∀ c : Dev Cert.KernelIdeal.nD,
    (Cert.Pre_in_field.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_field [hPre_in_field : Cert.Pre_in_field.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_field.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_field : Cert.Pre_in_field.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_field : Cert.Pre_in_field.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_field [hReferenceIdeal : Cert.ReferenceIdeal.Facts] [hPre_in_field : Cert.Pre_in_field.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_field m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_field : Cert.Pre_in_field.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_field : Cert.Pre_in_field.Facts),
    quiescent_Kernel (hKernel := hKernel) (hPre_in_field := hPre_in_field)
    ∧ quiescent_KernelIdeal (hKernelIdeal := hKernelIdeal) (hPre_in_field := hPre_in_field)
    ∧ quiescent_ReferenceIdeal (hReferenceIdeal := hReferenceIdeal)
    ∧ quiescent_ReferenceIdeal_pre_in_field (hReferenceIdeal := hReferenceIdeal) (hPre_in_field := hPre_in_field)
    ∧ preserves_Kernel_KernelIdeal
    ∧ algebraic_KernelIdeal_ReferenceIdeal (hKernelIdeal := hKernelIdeal) (hReferenceIdeal := hReferenceIdeal) (hPre_in_field := hPre_in_field)
-- ==== Pre_in_field.lean ====
abbrev S16384x26 : Shape := ⟨2, ![16384, 26]⟩
abbrev S2600000x1 : Shape := ⟨2, ![2600000, 1]⟩
abbrev S1 : Shape := ⟨1, ![1]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S2600000x1 .f32) (main_arg2 : FVec F S1 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S2600000x1 : Shape := ⟨2, ![2600000, 1]⟩
abbrev S1 : Shape := ⟨1, ![1]⟩
abbrev S1x2600000 : Shape := ⟨2, ![1, 2600000]⟩
abbrev S2599936 : Shape := ⟨1, ![2599936]⟩
abbrev S1x524288 : Shape := ⟨2, ![1, 524288]⟩
abbrev S524288 : Shape := ⟨1, ![524288]⟩
abbrev S64x1 : Shape := ⟨2, ![64, 1]⟩
abbrev S64 : Shape := ⟨1, ![64]⟩
abbrev S16 : Shape := ⟨1, ![16]⟩
abbrev S26x16384 : Shape := ⟨2, ![26, 16384]⟩
abbrev S16384 : Shape := ⟨1, ![16384]⟩
abbrev S13312 : Shape := ⟨1, ![13312]⟩
abbrev S512 : Shape := ⟨1, ![512]⟩
abbrev S_ : Shape := ⟨0, ![]⟩
abbrev S1x512 : Shape := ⟨2, ![1, 512]⟩
abbrev S3584 : Shape := ⟨1, ![3584]⟩
abbrev S3072 : Shape := ⟨1, ![3072]⟩

abbrev nBuf : Table → Nat
  | .hbm => 10
  | .local .tc .vmem => 4
  | .local .scVector .vmem => 7
  | _ => 0

abbrev bufTy : (tb : Table) → Fin (nBuf tb) → BufTy
  | .hbm, ⟨0, _⟩ => ⟨S16384x26, .i32⟩
  | .hbm, ⟨1, _⟩ => ⟨S2600000x1, .f32⟩
  | .hbm, ⟨2, _⟩ => ⟨S1, .f32⟩
  | .hbm, ⟨3, _⟩ => ⟨S1x2600000, .f32⟩
  | .hbm, ⟨4, _⟩ => ⟨S2599936, .f32⟩
  | .hbm, ⟨5, _⟩ => ⟨S64x1, .f32⟩
  | .hbm, ⟨6, _⟩ => ⟨S64, .f32⟩
  | .hbm, ⟨7, _⟩ => ⟨S16, .f32⟩
  | .hbm, ⟨8, _⟩ => ⟨S26x16384, .i32⟩
  | .hbm, ⟨9, _⟩ => ⟨S16384, .f32⟩
  | .local .tc .vmem, ⟨0, _⟩ => ⟨S1x524288, .f32⟩
  | .local .tc .vmem, ⟨1, _⟩ => ⟨S1x524288, .f32⟩
  | .local .tc .vmem, ⟨2, _⟩ => ⟨S524288, .f32⟩
  | .local .tc .vmem, ⟨3, _⟩ => ⟨S524288, .f32⟩
  | .local .scVector .vmem, ⟨0, _⟩ => ⟨S13312, .i32⟩
  | .local .scVector .vmem, ⟨1, _⟩ => ⟨S13312, .f32⟩
  | .local .scVector .vmem, ⟨2, _⟩ => ⟨S512, .i32⟩
  | .local .scVector .vmem, ⟨3, _⟩ => ⟨S64, .f32⟩
  | .local .scVector .vmem, ⟨4, _⟩ => ⟨S512, .f32⟩
  | .local .scVector .vmem, ⟨5, _⟩ => ⟨S512, .f32⟩
  | .local .scVector .vmem, ⟨6, _⟩ => ⟨S16, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v5_scv : Ref sig .scVector := ⟨.hbm, 8, rfl⟩
abbrev main_v1_scv : Ref sig .scVector := ⟨.hbm, 4, rfl⟩
abbrev main_v3_scv : Ref sig .scVector := ⟨.hbm, 6, rfl⟩
abbrev main_v4_scv : Ref sig .scVector := ⟨.hbm, 7, rfl⟩
abbrev main_v6_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1x524288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S524288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
def k1_off2 (i : grid1.Coords) : Fin 2 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![1, v2.toNat]
def k1_off3 (i : grid1.Coords) : Fin 2 → Nat :=
  let c2_i32_4 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![2, v2.toNat]
def k1_off4 (i : grid1.Coords) : Fin 2 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![3, v2.toNat]
def k1_off5 (i : grid1.Coords) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![4, v2.toNat]
def k1_off6 (i : grid1.Coords) : Fin 2 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![5, v2.toNat]
def k1_off7 (i : grid1.Coords) : Fin 2 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![6, v2.toNat]
def k1_off8 (i : grid1.Coords) : Fin 2 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![7, v2.toNat]
def k1_off9 (i : grid1.Coords) : Fin 2 → Nat :=
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![8, v2.toNat]
def k1_off10 (i : grid1.Coords) : Fin 2 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![9, v2.toNat]
def k1_off11 (i : grid1.Coords) : Fin 2 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![10, v2.toNat]
def k1_off12 (i : grid1.Coords) : Fin 2 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![11, v2.toNat]
def k1_off13 (i : grid1.Coords) : Fin 2 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![12, v2.toNat]
def k1_off14 (i : grid1.Coords) : Fin 2 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![13, v2.toNat]
def k1_off15 (i : grid1.Coords) : Fin 2 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![14, v2.toNat]
def k1_off16 (i : grid1.Coords) : Fin 2 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![15, v2.toNat]
def k1_off17 (i : grid1.Coords) : Fin 2 → Nat :=
  let c16_i32 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![16, v2.toNat]
def k1_off18 (i : grid1.Coords) : Fin 2 → Nat :=
  let c17_i32 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![17, v2.toNat]
def k1_off19 (i : grid1.Coords) : Fin 2 → Nat :=
  let c18_i32 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![18, v2.toNat]
def k1_off20 (i : grid1.Coords) : Fin 2 → Nat :=
  let c19_i32 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![19, v2.toNat]
def k1_off21 (i : grid1.Coords) : Fin 2 → Nat :=
  let c20_i32 : BitVec 32 := 20#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![20, v2.toNat]
def k1_off22 (i : grid1.Coords) : Fin 2 → Nat :=
  let c21_i32 : BitVec 32 := 21#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![21, v2.toNat]
def k1_off23 (i : grid1.Coords) : Fin 2 → Nat :=
  let c22_i32 : BitVec 32 := 22#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![22, v2.toNat]
def k1_off24 (i : grid1.Coords) : Fin 2 → Nat :=
  let c23_i32 : BitVec 32 := 23#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![23, v2.toNat]
def k1_off25 (i : grid1.Coords) : Fin 2 → Nat :=
  let c24_i32 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![24, v2.toNat]
def k1_off26 (i : grid1.Coords) : Fin 2 → Nat :=
  let c25_i32 : BitVec 32 := 25#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![25, v2.toNat]
@[reducible] def k1_t1_loop : Scf.Loop 32 :=
  let c0_i32_51 : BitVec 32 := 0#32
  let c224_i32 : BitVec 32 := 224#32
  let v202 : BitVec 32 := Scalar.addi c0_i32_51 c224_i32
  let c1_i32_52 : BitVec 32 := 1#32
  ⟨c0_i32_51, v202, c1_i32_52⟩
def k1_off27 (k1_t1 : Fin k1_t1_loop.trips) : Fin 1 → Nat :=
  let c0_i32_180 : BitVec 32 := 0#32
  let c0_i32_51 : BitVec 32 := 0#32
  let c1_i32_52 : BitVec 32 := 1#32
  let arg22 : BitVec 32 := Scf.iv c0_i32_51 c1_i32_52 k1_t1
  let c0_i32_174 : BitVec 32 := 0#32
  let v352 : BitVec 1 := Scalar.cmpi .sgt arg22 c0_i32_174
  let v353 : BitVec 32 := Scalar.extui v352
  let c0_i32_175 : BitVec 32 := 0#32
  let v354 : BitVec 1 := Scalar.cmpi .slt arg22 c0_i32_175
  let v355 : BitVec 32 := Scalar.extui v354
  let v356 : BitVec 32 := Scalar.subi v353 v355
  let c32_i32_173 : BitVec 32 := 32#32
  let c0_i32_176 : BitVec 32 := 0#32
  let v357 : BitVec 1 := Scalar.cmpi .sgt c32_i32_173 c0_i32_176
  let v358 : BitVec 32 := Scalar.extui v357
  let c0_i32_177 : BitVec 32 := 0#32
  let v359 : BitVec 1 := Scalar.cmpi .slt c32_i32_173 c0_i32_177
  let v360 : BitVec 32 := Scalar.extui v359
  let v361 : BitVec 32 := Scalar.subi v358 v360
  let v362 : BitVec 1 := Scalar.cmpi .ne v356 v361
  let v363 : BitVec 32 := Scalar.remsi arg22 c32_i32_173
  let c0_i32_178 : BitVec 32 := 0#32
  let v364 : BitVec 1 := Scalar.cmpi .ne v363 c0_i32_178
  let v365 : BitVec 1 := Scalar.andi v362 v364
  let v351 : BitVec 32 := Scalar.divsi arg22 c32_i32_173
  let c1_i32_179 : BitVec 32 := 1#32
  let v366 : BitVec 32 := Scalar.subi v351 c1_i32_179
  let v367 : BitVec 32 := Scalar.select v365 v366 v351
  let v368 : BitVec 32 := Scalar.addi c0_i32_180 v367
  let c512_i32_181 : BitVec 32 := 512#32
  let v369 : BitVec 32 := Scalar.muli v368 c512_i32_181
  let c32_i32_182 : BitVec 32 := 32#32
  let c0_i32_183 : BitVec 32 := 0#32
  let v370 : BitVec 1 := Scalar.cmpi .eq c32_i32_182 c0_i32_183
  let c1_i32_184 : BitVec 32 := 1#32
  let v371 : BitVec 32 := Scalar.select v370 c1_i32_184 c32_i32_182
  let v372 : BitVec 32 := Scalar.remsi arg22 v371
  let c0_i32_186 : BitVec 32 := 0#32
  let v374 : BitVec 1 := Scalar.cmpi .slt v372 c0_i32_186
  let c0_i32_187 : BitVec 32 := 0#32
  let v375 : BitVec 1 := Scalar.cmpi .slt v371 c0_i32_187
  let v376 : BitVec 1 := Scalar.xori v374 v375
  let c0_i32_185 : BitVec 32 := 0#32
  let v373 : BitVec 1 := Scalar.cmpi .ne v372 c0_i32_185
  let v377 : BitVec 1 := Scalar.andi v376 v373
  let v378 : BitVec 32 := Scalar.addi v372 v371
  let v379 : BitVec 32 := Scalar.select v377 v378 v372
  let c16_i32_188 : BitVec 32 := 16#32
  let v380 : BitVec 32 := Scalar.muli v379 c16_i32_188
  let v381 : BitVec 32 := Scalar.addi v369 v380
  let v382 : Index := Scalar.indexCast v381
  ![v382.toNat]
@[reducible] def k1_t2_loop : Scf.Loop 32 :=
  let c0_i32_76 : BitVec 32 := 0#32
  let c192_i32 : BitVec 32 := 192#32
  let v242 : BitVec 32 := Scalar.addi c0_i32_76 c192_i32
  let c1_i32_77 : BitVec 32 := 1#32
  ⟨c0_i32_76, v242, c1_i32_77⟩
def k1_off28 (k1_t2 : Fin k1_t2_loop.trips) : Fin 1 → Nat :=
  let c7_i32_180 : BitVec 32 := 7#32
  let c0_i32_76 : BitVec 32 := 0#32
  let c1_i32_77 : BitVec 32 := 1#32
  let arg22 : BitVec 32 := Scf.iv c0_i32_76 c1_i32_77 k1_t2
  let c0_i32_174 : BitVec 32 := 0#32
  let v352 : BitVec 1 := Scalar.cmpi .sgt arg22 c0_i32_174
  let v353 : BitVec 32 := Scalar.extui v352
  let c0_i32_175 : BitVec 32 := 0#32
  let v354 : BitVec 1 := Scalar.cmpi .slt arg22 c0_i32_175
  let v355 : BitVec 32 := Scalar.extui v354
  let v356 : BitVec 32 := Scalar.subi v353 v355
  let c32_i32_173 : BitVec 32 := 32#32
  let c0_i32_176 : BitVec 32 := 0#32
  let v357 : BitVec 1 := Scalar.cmpi .sgt c32_i32_173 c0_i32_176
  let v358 : BitVec 32 := Scalar.extui v357
  let c0_i32_177 : BitVec 32 := 0#32
  let v359 : BitVec 1 := Scalar.cmpi .slt c32_i32_173 c0_i32_177
  let v360 : BitVec 32 := Scalar.extui v359
  let v361 : BitVec 32 := Scalar.subi v358 v360
  let v362 : BitVec 1 := Scalar.cmpi .ne v356 v361
  let v363 : BitVec 32 := Scalar.remsi arg22 c32_i32_173
  let c0_i32_178 : BitVec 32 := 0#32
  let v364 : BitVec 1 := Scalar.cmpi .ne v363 c0_i32_178
  let v365 : BitVec 1 := Scalar.andi v362 v364
  let v351 : BitVec 32 := Scalar.divsi arg22 c32_i32_173
  let c1_i32_179 : BitVec 32 := 1#32
  let v366 : BitVec 32 := Scalar.subi v351 c1_i32_179
  let v367 : BitVec 32 := Scalar.select v365 v366 v351
  let v368 : BitVec 32 := Scalar.addi c7_i32_180 v367
  let c512_i32_181 : BitVec 32 := 512#32
  let v369 : BitVec 32 := Scalar.muli v368 c512_i32_181
  let c32_i32_182 : BitVec 32 := 32#32
  let c0_i32_183 : BitVec 32 := 0#32
  let v370 : BitVec 1 := Scalar.cmpi .eq c32_i32_182 c0_i32_183
  let c1_i32_184 : BitVec 32 := 1#32
  let v371 : BitVec 32 := Scalar.select v370 c1_i32_184 c32_i32_182
  let v372 : BitVec 32 := Scalar.remsi arg22 v371
  let c0_i32_186 : BitVec 32 := 0#32
  let v374 : BitVec 1 := Scalar.cmpi .slt v372 c0_i32_186
  let c0_i32_187 : BitVec 32 := 0#32
  let v375 : BitVec 1 := Scalar.cmpi .slt v371 c0_i32_187
  let v376 : BitVec 1 := Scalar.xori v374 v375
  let c0_i32_185 : BitVec 32 := 0#32
  let v373 : BitVec 1 := Scalar.cmpi .ne v372 c0_i32_185
  let v377 : BitVec 1 := Scalar.andi v376 v373
  let v378 : BitVec 32 := Scalar.addi v372 v371
  let v379 : BitVec 32 := Scalar.select v377 v378 v372
  let c16_i32_188 : BitVec 32 := 16#32
  let v380 : BitVec 32 := Scalar.muli v379 c16_i32_188
  let v381 : BitVec 32 := Scalar.addi v369 v380
  let v382 : Index := Scalar.indexCast v381
  ![v382.toNat]
@[reducible] def k1_t3_loop : Scf.Loop 32 :=
  let c0_i32_104 : BitVec 32 := 0#32
  let c224_i32_105 : BitVec 32 := 224#32
  let v288 : BitVec 32 := Scalar.addi c0_i32_104 c224_i32_105
  let c1_i32_106 : BitVec 32 := 1#32
  ⟨c0_i32_104, v288, c1_i32_106⟩
def k1_off29 (k1_t3 : Fin k1_t3_loop.trips) : Fin 1 → Nat :=
  let c13_i32_180 : BitVec 32 := 13#32
  let c0_i32_104 : BitVec 32 := 0#32
  let c1_i32_106 : BitVec 32 := 1#32
  let arg22 : BitVec 32 := Scf.iv c0_i32_104 c1_i32_106 k1_t3
  let c0_i32_174 : BitVec 32 := 0#32
  let v352 : BitVec 1 := Scalar.cmpi .sgt arg22 c0_i32_174
  let v353 : BitVec 32 := Scalar.extui v352
  let c0_i32_175 : BitVec 32 := 0#32
  let v354 : BitVec 1 := Scalar.cmpi .slt arg22 c0_i32_175
  let v355 : BitVec 32 := Scalar.extui v354
  let v356 : BitVec 32 := Scalar.subi v353 v355
  let c32_i32_173 : BitVec 32 := 32#32
  let c0_i32_176 : BitVec 32 := 0#32
  let v357 : BitVec 1 := Scalar.cmpi .sgt c32_i32_173 c0_i32_176
  let v358 : BitVec 32 := Scalar.extui v357
  let c0_i32_177 : BitVec 32 := 0#32
  let v359 : BitVec 1 := Scalar.cmpi .slt c32_i32_173 c0_i32_177
  let v360 : BitVec 32 := Scalar.extui v359
  let v361 : BitVec 32 := Scalar.subi v358 v360
  let v362 : BitVec 1 := Scalar.cmpi .ne v356 v361
  let v363 : BitVec 32 := Scalar.remsi arg22 c32_i32_173
  let c0_i32_178 : BitVec 32 := 0#32
  let v364 : BitVec 1 := Scalar.cmpi .ne v363 c0_i32_178
  let v365 : BitVec 1 := Scalar.andi v362 v364
  let v351 : BitVec 32 := Scalar.divsi arg22 c32_i32_173
  let c1_i32_179 : BitVec 32 := 1#32
  let v366 : BitVec 32 := Scalar.subi v351 c1_i32_179
  let v367 : BitVec 32 := Scalar.select v365 v366 v351
  let v368 : BitVec 32 := Scalar.addi c13_i32_180 v367
  let c512_i32_181 : BitVec 32 := 512#32
  let v369 : BitVec 32 := Scalar.muli v368 c512_i32_181
  let c32_i32_182 : BitVec 32 := 32#32
  let c0_i32_183 : BitVec 32 := 0#32
  let v370 : BitVec 1 := Scalar.cmpi .eq c32_i32_182 c0_i32_183
  let c1_i32_184 : BitVec 32 := 1#32
  let v371 : BitVec 32 := Scalar.select v370 c1_i32_184 c32_i32_182
  let v372 : BitVec 32 := Scalar.remsi arg22 v371
  let c0_i32_186 : BitVec 32 := 0#32
  let v374 : BitVec 1 := Scalar.cmpi .slt v372 c0_i32_186
  let c0_i32_187 : BitVec 32 := 0#32
  let v375 : BitVec 1 := Scalar.cmpi .slt v371 c0_i32_187
  let v376 : BitVec 1 := Scalar.xori v374 v375
  let c0_i32_185 : BitVec 32 := 0#32
  let v373 : BitVec 1 := Scalar.cmpi .ne v372 c0_i32_185
  let v377 : BitVec 1 := Scalar.andi v376 v373
  let v378 : BitVec 32 := Scalar.addi v372 v371
  let v379 : BitVec 32 := Scalar.select v377 v378 v372
  let c16_i32_188 : BitVec 32 := 16#32
  let v380 : BitVec 32 := Scalar.muli v379 c16_i32_188
  let v381 : BitVec 32 := Scalar.addi v369 v380
  let v382 : Index := Scalar.indexCast v381
  ![v382.toNat]
@[reducible] def k1_t4_loop : Scf.Loop 32 :=
  let c0_i32_130 : BitVec 32 := 0#32
  let c160_i32 : BitVec 32 := 160#32
  let v328 : BitVec 32 := Scalar.addi c0_i32_130 c160_i32
  let c1_i32_131 : BitVec 32 := 1#32
  ⟨c0_i32_130, v328, c1_i32_131⟩
def k1_off30 (k1_t4 : Fin k1_t4_loop.trips) : Fin 1 → Nat :=
  let c20_i32_180 : BitVec 32 := 20#32
  let c0_i32_130 : BitVec 32 := 0#32
  let c1_i32_131 : BitVec 32 := 1#32
  let arg22 : BitVec 32 := Scf.iv c0_i32_130 c1_i32_131 k1_t4
  let c0_i32_174 : BitVec 32 := 0#32
  let v352 : BitVec 1 := Scalar.cmpi .sgt arg22 c0_i32_174
  let v353 : BitVec 32 := Scalar.extui v352
  let c0_i32_175 : BitVec 32 := 0#32
  let v354 : BitVec 1 := Scalar.cmpi .slt arg22 c0_i32_175
  let v355 : BitVec 32 := Scalar.extui v354
  let v356 : BitVec 32 := Scalar.subi v353 v355
  let c32_i32_173 : BitVec 32 := 32#32
  let c0_i32_176 : BitVec 32 := 0#32
  let v357 : BitVec 1 := Scalar.cmpi .sgt c32_i32_173 c0_i32_176
  let v358 : BitVec 32 := Scalar.extui v357
  let c0_i32_177 : BitVec 32 := 0#32
  let v359 : BitVec 1 := Scalar.cmpi .slt c32_i32_173 c0_i32_177
  let v360 : BitVec 32 := Scalar.extui v359
  let v361 : BitVec 32 := Scalar.subi v358 v360
  let v362 : BitVec 1 := Scalar.cmpi .ne v356 v361
  let v363 : BitVec 32 := Scalar.remsi arg22 c32_i32_173
  let c0_i32_178 : BitVec 32 := 0#32
  let v364 : BitVec 1 := Scalar.cmpi .ne v363 c0_i32_178
  let v365 : BitVec 1 := Scalar.andi v362 v364
  let v351 : BitVec 32 := Scalar.divsi arg22 c32_i32_173
  let c1_i32_179 : BitVec 32 := 1#32
  let v366 : BitVec 32 := Scalar.subi v351 c1_i32_179
  let v367 : BitVec 32 := Scalar.select v365 v366 v351
  let v368 : BitVec 32 := Scalar.addi c20_i32_180 v367
  let c512_i32_181 : BitVec 32 := 512#32
  let v369 : BitVec 32 := Scalar.muli v368 c512_i32_181
  let c32_i32_182 : BitVec 32 := 32#32
  let c0_i32_183 : BitVec 32 := 0#32
  let v370 : BitVec 1 := Scalar.cmpi .eq c32_i32_182 c0_i32_183
  let c1_i32_184 : BitVec 32 := 1#32
  let v371 : BitVec 32 := Scalar.select v370 c1_i32_184 c32_i32_182
  let v372 : BitVec 32 := Scalar.remsi arg22 v371
  let c0_i32_186 : BitVec 32 := 0#32
  let v374 : BitVec 1 := Scalar.cmpi .slt v372 c0_i32_186
  let c0_i32_187 : BitVec 32 := 0#32
  let v375 : BitVec 1 := Scalar.cmpi .slt v371 c0_i32_187
  let v376 : BitVec 1 := Scalar.xori v374 v375
  let c0_i32_185 : BitVec 32 := 0#32
  let v373 : BitVec 1 := Scalar.cmpi .ne v372 c0_i32_185
  let v377 : BitVec 1 := Scalar.andi v376 v373
  let v378 : BitVec 32 := Scalar.addi v372 v371
  let v379 : BitVec 32 := Scalar.select v377 v378 v372
  let c16_i32_188 : BitVec 32 := 16#32
  let v380 : BitVec 32 := Scalar.muli v379 c16_i32_188
  let v381 : BitVec 32 := Scalar.addi v369 v380
  let v382 : Index := Scalar.indexCast v381
  ![v382.toNat]
@[reducible] def k1_t5_loop : Scf.Loop 32 :=
  let c0_i32_134 : BitVec 32 := 0#32
  let c32_i32 : BitVec 32 := 32#32
  let v329 : BitVec 32 := Scalar.addi c0_i32_134 c32_i32
  let c1_i32_135 : BitVec 32 := 1#32
  ⟨c0_i32_134, v329, c1_i32_135⟩
def k1_off31 (k1_t5 : Fin k1_t5_loop.trips) : Fin 1 → Nat :=
  let c12800_i32_174 : BitVec 32 := 12800#32
  let c0_i32_134 : BitVec 32 := 0#32
  let c1_i32_135 : BitVec 32 := 1#32
  let arg22 : BitVec 32 := Scf.iv c0_i32_134 c1_i32_135 k1_t5
  let c16_i32_173 : BitVec 32 := 16#32
  let v351 : BitVec 32 := Scalar.muli arg22 c16_i32_173
  let v352 : BitVec 32 := Scalar.addi c12800_i32_174 v351
  let v353 : Index := Scalar.indexCast v352
  ![v353.toNat]
def k1_off32 (k1_t5 : Fin k1_t5_loop.trips) : Fin 1 → Nat :=
  let c0_i32_134 : BitVec 32 := 0#32
  let c1_i32_135 : BitVec 32 := 1#32
  let arg22 : BitVec 32 := Scf.iv c0_i32_134 c1_i32_135 k1_t5
  let c16_i32_178 : BitVec 32 := 16#32
  let v363 : BitVec 32 := Scalar.muli arg22 c16_i32_178
  let v364 : Index := Scalar.indexCast v363
  ![v364.toNat]
@[reducible] def k1_t6_loop : Scf.Loop 32 :=
  let c0_i32_145 : BitVec 32 := 0#32
  let c32_i32_146 : BitVec 32 := 32#32
  let v338 : BitVec 32 := Scalar.addi c0_i32_145 c32_i32_146
  let c1_i32_147 : BitVec 32 := 1#32
  ⟨c0_i32_145, v338, c1_i32_147⟩
def k1_off33 (k1_t6 : Fin k1_t6_loop.trips) (c0_i32_174 : BitVec 32) : Fin 1 → Nat :=
  let c0_i32_145 : BitVec 32 := 0#32
  let c1_i32_147 : BitVec 32 := 1#32
  let arg22 : BitVec 32 := Scf.iv c0_i32_145 c1_i32_147 k1_t6
  let c16_i32_173 : BitVec 32 := 16#32
  let v351 : BitVec 32 := Scalar.muli arg22 c16_i32_173
  let v352 : BitVec 32 := Scalar.addi c0_i32_174 v351
  let v353 : Index := Scalar.indexCast v352
  ![v353.toNat]
def k1_off34 (k1_t6 : Fin k1_t6_loop.trips) : Fin 1 → Nat :=
  let c0_i32_145 : BitVec 32 := 0#32
  let c1_i32_147 : BitVec 32 := 1#32
  let arg22 : BitVec 32 := Scf.iv c0_i32_145 c1_i32_147 k1_t6
  let c16_i32_173 : BitVec 32 := 16#32
  let v351 : BitVec 32 := Scalar.muli arg22 c16_i32_173
  let v380 : Index := Scalar.indexCast v351
  ![v380.toNat]
@[reducible] def k1_t7_loop : Scf.Loop 32 :=
  let c0_i32_153 : BitVec 32 := 0#32
  let c32_i32_154 : BitVec 32 := 32#32
  let v342 : BitVec 32 := Scalar.addi c0_i32_153 c32_i32_154
  let c1_i32_155 : BitVec 32 := 1#32
  ⟨c0_i32_153, v342, c1_i32_155⟩
def k1_off35 (k1_t7 : Fin k1_t7_loop.trips) : Fin 1 → Nat :=
  let c0_i32_153 : BitVec 32 := 0#32
  let c1_i32_155 : BitVec 32 := 1#32
  let arg22 : BitVec 32 := Scf.iv c0_i32_153 c1_i32_155 k1_t7
  let c16_i32_173 : BitVec 32 := 16#32
  let v351 : BitVec 32 := Scalar.muli arg22 c16_i32_173
  let v352 : Index := Scalar.indexCast v351
  ![v352.toNat]
def k1_off36 (k1_t7 : Fin k1_t7_loop.trips) (c3584_i32_174 : BitVec 32) : Fin 1 → Nat :=
  let c0_i32_153 : BitVec 32 := 0#32
  let c1_i32_155 : BitVec 32 := 1#32
  let arg22 : BitVec 32 := Scf.iv c0_i32_153 c1_i32_155 k1_t7
  let c16_i32_173 : BitVec 32 := 16#32
  let v351 : BitVec 32 := Scalar.muli arg22 c16_i32_173
  let v354 : BitVec 32 := Scalar.addi c3584_i32_174 v351
  let v355 : Index := Scalar.indexCast v354
  ![v355.toNat]
@[reducible] def k1_t8_loop : Scf.Loop 32 :=
  let c0_i32_161 : BitVec 32 := 0#32
  let c32_i32_162 : BitVec 32 := 32#32
  let v346 : BitVec 32 := Scalar.addi c0_i32_161 c32_i32_162
  let c1_i32_163 : BitVec 32 := 1#32
  ⟨c0_i32_161, v346, c1_i32_163⟩
def k1_off37 (k1_t8 : Fin k1_t8_loop.trips) : Fin 1 → Nat :=
  let c0_i32_161 : BitVec 32 := 0#32
  let c1_i32_163 : BitVec 32 := 1#32
  let arg22 : BitVec 32 := Scf.iv c0_i32_161 c1_i32_163 k1_t8
  let c16_i32_173 : BitVec 32 := 16#32
  let v351 : BitVec 32 := Scalar.muli arg22 c16_i32_173
  let v352 : Index := Scalar.indexCast v351
  ![v352.toNat]
def k1_off38 (k1_t8 : Fin k1_t8_loop.trips) (c6656_i32_174 : BitVec 32) : Fin 1 → Nat :=
  let c0_i32_161 : BitVec 32 := 0#32
  let c1_i32_163 : BitVec 32 := 1#32
  let arg22 : BitVec 32 := Scf.iv c0_i32_161 c1_i32_163 k1_t8
  let c16_i32_173 : BitVec 32 := 16#32
  let v351 : BitVec 32 := Scalar.muli arg22 c16_i32_173
  let v354 : BitVec 32 := Scalar.addi c6656_i32_174 v351
  let v355 : Index := Scalar.indexCast v354
  ![v355.toNat]
@[reducible] def k1_t9_loop : Scf.Loop 32 :=
  let c0_i32_169 : BitVec 32 := 0#32
  let c32_i32_170 : BitVec 32 := 32#32
  let v350 : BitVec 32 := Scalar.addi c0_i32_169 c32_i32_170
  let c1_i32_171 : BitVec 32 := 1#32
  ⟨c0_i32_169, v350, c1_i32_171⟩
def k1_off39 (k1_t9 : Fin k1_t9_loop.trips) : Fin 1 → Nat :=
  let c0_i32_169 : BitVec 32 := 0#32
  let c1_i32_171 : BitVec 32 := 1#32
  let arg22 : BitVec 32 := Scf.iv c0_i32_169 c1_i32_171 k1_t9
  let c16_i32_173 : BitVec 32 := 16#32
  let v351 : BitVec 32 := Scalar.muli arg22 c16_i32_173
  let v352 : Index := Scalar.indexCast v351
  ![v352.toNat]
def k1_off40 (k1_t9 : Fin k1_t9_loop.trips) (c10240_i32_174 : BitVec 32) : Fin 1 → Nat :=
  let c0_i32_169 : BitVec 32 := 0#32
  let c1_i32_171 : BitVec 32 := 1#32
  let arg22 : BitVec 32 := Scf.iv c0_i32_169 c1_i32_171 k1_t9
  let c16_i32_173 : BitVec 32 := 16#32
  let v351 : BitVec 32 := Scalar.muli arg22 c16_i32_173
  let v354 : BitVec 32 := Scalar.addi c10240_i32_174 v351
  let v355 : Index := Scalar.indexCast v354
  ![v355.toNat]

def k1_chk1 (v381 : IVec S16 32) : Prop :=
  (∀ a x, ((![v381] : Fin 1 → IVec S16 32) a x).toNat < S64.size a)
theorem k1_idx1_inb : ∀ (v381 : IVec S16 32) (k1_hw1 : k1_chk1 v381), ∀ a x, ((![v381] : Fin 1 → IVec S16 32) a x).toNat < S64.size a := fun v381 k1_hw1 => k1_hw1
def k1_off41 (k1_t9 : Fin k1_t9_loop.trips) : Fin 1 → Nat :=
  let c0_i32_169 : BitVec 32 := 0#32
  let c1_i32_171 : BitVec 32 := 1#32
  let arg22 : BitVec 32 := Scf.iv c0_i32_169 c1_i32_171 k1_t9
  let c16_i32_173 : BitVec 32 := 16#32
  let v351 : BitVec 32 := Scalar.muli arg22 c16_i32_173
  let v394 : Index := Scalar.indexCast v351
  ![v394.toNat]
def k1_off42 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26 : Shape := ⟨2, ![16384, 26]⟩
abbrev S2600000x1 : Shape := ⟨2, ![2600000, 1]⟩
abbrev S1 : Shape := ⟨1, ![1]⟩
abbrev S26 : Shape := ⟨1, ![26]⟩
abbrev S_ : Shape := ⟨0, ![]⟩
abbrev S1x26 : Shape := ⟨2, ![1, 26]⟩
abbrev S16384x26x1 : Shape := ⟨3, ![16384, 26, 1]⟩
abbrev S1x1x1 : Shape := ⟨3, ![1, 1, 1]⟩
abbrev S16384x1 : Shape := ⟨2, ![16384, 1]⟩
abbrev S1x1 : Shape := ⟨2, ![1, 1]⟩
abbrev S16384 : Shape := ⟨1, ![16384]⟩

abbrev nBuf : Space → Nat
  | .hbm => 47
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S2600000x1, .f32⟩
  | .hbm, ⟨2, _⟩ => ⟨S1, .f32⟩
  | .hbm, ⟨3, _⟩ => ⟨S26, .i32⟩
  | .hbm, ⟨4, _⟩ => ⟨S_, .i32⟩
  | .hbm, ⟨5, _⟩ => ⟨S26, .i32⟩
  | .hbm, ⟨6, _⟩ => ⟨S26, .i32⟩
  | .hbm, ⟨7, _⟩ => ⟨S1x26, .i32⟩
  | .hbm, ⟨8, _⟩ => ⟨S16384x26, .i32⟩
  | .hbm, ⟨9, _⟩ => ⟨S16384x26, .i32⟩
  | .hbm, ⟨10, _⟩ => ⟨S_, .i32⟩
  | .hbm, ⟨11, _⟩ => ⟨S16384x26, .i32⟩
  | .hbm, ⟨12, _⟩ => ⟨S16384x26, .i1⟩
  | .hbm, ⟨13, _⟩ => ⟨S_, .i32⟩
  | .hbm, ⟨14, _⟩ => ⟨S16384x26, .i32⟩
  | .hbm, ⟨15, _⟩ => ⟨S16384x26, .i32⟩
  | .hbm, ⟨16, _⟩ => ⟨S16384x26, .i32⟩
  | .hbm, ⟨17, _⟩ => ⟨S16384x26x1, .i32⟩
  | .hbm, ⟨18, _⟩ => ⟨S1, .i32⟩
  | .hbm, ⟨19, _⟩ => ⟨S_, .i32⟩
  | .hbm, ⟨20, _⟩ => ⟨S16384x26x1, .i32⟩
  | .hbm, ⟨21, _⟩ => ⟨S16384x26x1, .i1⟩
  | .hbm, ⟨22, _⟩ => ⟨S1x1x1, .i32⟩
  | .hbm, ⟨23, _⟩ => ⟨S16384x26x1, .i32⟩
  | .hbm, ⟨24, _⟩ => ⟨S16384x26x1, .i1⟩
  | .hbm, ⟨25, _⟩ => ⟨S16384x26x1, .i1⟩
  | .hbm, ⟨26, _⟩ => ⟨S_, .i1⟩
  | .hbm, ⟨27, _⟩ => ⟨S16384x26, .i1⟩
  | .hbm, ⟨28, _⟩ => ⟨S16384x26x1, .f32⟩
  | .hbm, ⟨29, _⟩ => ⟨S16384x26x1, .i1⟩
  | .hbm, ⟨30, _⟩ => ⟨S_, .f32⟩
  | .hbm, ⟨31, _⟩ => ⟨S16384x26x1, .f32⟩
  | .hbm, ⟨32, _⟩ => ⟨S16384x26x1, .f32⟩
  | .hbm, ⟨33, _⟩ => ⟨S_, .f32⟩
  | .hbm, ⟨34, _⟩ => ⟨S16384x1, .f32⟩
  | .hbm, ⟨35, _⟩ => ⟨S1x1, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_0 : Ref sig .tc := ⟨.hbm, 40, rfl⟩
abbrev main_v13 : Ref sig .tc := ⟨.hbm, 41, rfl⟩
abbrev main_v14 : Ref sig .tc := ⟨.hbm, 42, rfl⟩
abbrev main_cst_1 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]
-- ==== Proof.Setup.lean ====
/-
  The program as the launch theorem sees it, its memory, and what the kernel's buffers hold at each stage.

  The SparseCore call runs 32 tiles. Tile `(c, s)` owns the 512 result rows from `1024 * s + 512 * c`. It stages the 26
  index columns of those rows into one list of 13312 words (field by field, 512 words each), turns each index into a
  position in the flat table, gathers the table at those positions, adds the 26 gathered words and the bias, and writes
  the logistic function of the sum.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
/-- The call uses sixteen subcores of a SparseCore. -/
theorem nSub_zero : (K (F := F)).nSub 0 = 16 := rfl
/-- The call uses two SparseCores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and unscoped, and no buffer of a SparseCore is shared by its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the rounds of the TensorCore's pipeline, and the counters of the transfers -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR
abbrev EC : UEmb Counters (MT nD τ sig (HIx 1) (Elt F) ℕ UU ℕ) := countersEmb

/-! ## Indices -/

/-- The index `(i, j)` of the transposed index array. -/
def ixI (i : Fin 26) (j : Fin 16384) : S26x16384.Idx := fun | 0 => i | 1 => j
/-- Position `n` of the flat table, `n` reduced below the table's length (no position met is changed by that). -/
def ixW (n : ℕ) : S2599936.Idx := fun | 0 => ⟨n % 2599936, Nat.mod_lt _ (by decide)⟩
/-- Position `n` of the tail table. -/
def ixT (n : ℕ) : S64.Idx := fun | 0 => ⟨n % 64, Nat.mod_lt _ (by decide)⟩
/-- Position `n` of the index list. -/
def ixL (n : ℕ) : S13312.Idx := fun | 0 => ⟨n % 13312, Nat.mod_lt _ (by decide)⟩
/-- Position `n` of a 512-word buffer. -/
def ixB (n : ℕ) : S512.Idx := fun | 0 => ⟨n % 512, Nat.mod_lt _ (by decide)⟩

/-- The first result row of the tile at `L`. -/
def rb (L : grid1.Coords) : ℕ := 1024 * (L 1).val + 512 * (L 0).val

/-- A tile's rows lie within the batch. -/
theorem rb_le (L : grid1.Coords) : rb L + 512 ≤ 16384 := by
  have h1 : (L 1).val < 16 := (L 1).isLt
  have h0 : (L 0).val < 2 := (L 0).isLt
  unfold rb; omega

/-! ## What the buffers hold -/

section Contents

variable (vI : S26x16384.Idx → BitVec 32)

/-- The index at position `n` of the tile's list: field `n / 512`, result row `rb L + n % 512`. -/
def rawN (L : grid1.Coords) (n : ℕ) : BitVec 32 :=
  vI (ixI ⟨n / 512 % 26, Nat.mod_lt _ (by decide)⟩ ⟨(rb L + n % 512) % 16384, Nat.mod_lt _ (by decide)⟩)

/-- The list as staged. -/
def raw (L : grid1.Coords) : S13312.Idx → BitVec 32 := fun x => rawN vI L (x 0).val

/-- The position in the flat table that index `v` of field `f` is sent to. -/
def posN (v : BitVec 32) (f : ℕ) : ℕ := min (v.toNat + f * 100000) 2599935

/-- The list once the field offsets have been added. -/
def adj (L : grid1.Coords) : S13312.Idx → BitVec 32 :=
  fun x => BitVec.ofNat 32 (posN (rawN vI L (x 0).val) ((x 0).val / 512))

/-- For a last-field index `v`: one more than its position in the tail table, or zero when the flat table has it. -/
def tdw (v : BitVec 32) : BitVec 32 := if 99936 ≤ v.toNat then BitVec.ofNat 32 (v.toNat - 99935) else 0#32

/-- The tail positions of the tile's 512 rows. -/
def tdl (L : grid1.Coords) : S512.Idx → BitVec 32 := fun x => tdw (rawN vI L (12800 + (x 0).val))

variable (vW : S2599936.Idx → F .f32) (vT : S64.Idx → F .f32) (vB : S16.Idx → F .f32)

/-- The word gathered for position `n` of the list. -/
def gatN (L : grid1.Coords) (n : ℕ) : F .f32 := vW (ixW (posN (rawN vI L n) (n / 512)))
/-- The gathered words. -/
def gat (L : grid1.Coords) : S13312.Idx → F .f32 := fun x => gatN vI vW L (x 0).val

variable [FloatOps F]

/-- `a` plus the gathered words of fields `f`, …, `f + k - 1` at row `b`, added one at a time in that order. -/
def addFields (L : grid1.Coords) (b : ℕ) (a : F .f32) (f : ℕ) : ℕ → F .f32
  | 0 => a
  | k + 1 => FloatOps.addf (addFields L b a f k) (gatN vI vW L (512 * (f + k) + b))

/-- The word added for the last field: the tail table's when the index lies past the flat table. -/
def lastW (L : grid1.Coords) (b : ℕ) : F .f32 :=
  if 99936 ≤ (rawN vI L (12800 + b)).toNat then vT (ixT ((rawN vI L (12800 + b)).toNat - 99936)) else gatN vI vW L (12800 + b)

/-- The value written for row `b` of the tile: the logistic function of the bias plus the 26 words. -/
def outN (L : grid1.Coords) (b : ℕ) : F .f32 :=
  FloatOps.divf (Scalar.ofBits .f32 0x3F800000#32) (FloatOps.addf (Scalar.ofBits .f32 0x3F800000#32)
    (FloatOps.exp (FloatOps.subf (Scalar.ofBits .f32 0x00000000#32)
      (FloatOps.addf (addFields vI vW L b (vB (fun | 0 => ⟨b % 16, Nat.mod_lt _ (by decide)⟩)) 0 25) (lastW vI vW vT L b)))))

end Contents

end Cert.Proof

end
-- ==== Proof.Retile.lean ====
/-
  The TensorCore call that copies the table's single row into a flat array, five blocks of 524288 words, the last one cut.
-/
module

public import proofs.«01_k».proof.Proof.Setup
public import Idealize.ShloMosaic.Lib.Pipeline.Value

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable {d : Dev nD} {L : grid1.Coords} {vI : S26x16384.Idx → BitVec 32}

open Idealize.ShloMosaic.TcCoe
open Idealize.ShloMosaic.Pipeline (Dat Cfg Window BodyObligationLoose)

/-! ## The staged blocks -/

/-- A valuation of the TensorCore's buffers on every device. -/
abbrev Vals (F : FTy → Type) : Type := (c : Dev nD) → (b : Ref sig .tc) → Buf (Elt F) ((c : Thread nD τ).loc b)

variable (V : Vals F)

/-- Position `n` of the one row of the transposed table. -/
def ixR (n : ℕ) : S1x2600000.Idx := fun | 0 => ⟨0, Nat.one_pos⟩ | 1 => ⟨n % 2600000, Nat.mod_lt _ (by decide)⟩

/-- The word at position `n` of the transposed table. -/
def rowAt (c : Dev nD) (n : ℕ) : F .f32 := (V c main_v0 : S1x2600000.Idx → F .f32) (ixR n)

/-- The part of the transposed table that the fetch at point `t` moves. -/
def inBlk (c : Dev nD) (t : Fin cfg0.N) : (win0_0.xblock (grid0.coords t)).Idx → Elt F .f32 :=
  (win0_0.blk t).view.read (Elt F) (V c main_v0)

/-- The block of the flat table that the body leaves at point `t`. -/
def outBlk (c : Dev nD) (t : Fin cfg0.N) : S524288.Idx → Elt F .f32 :=
  fun x => rowAt V c (524288 * t.val + (x 0).val)

/-- The flat table: the first 2599936 words of the transposed table. -/
def flat (c : Dev nD) : S2599936.Idx → Elt F .f32 := fun x => rowAt V c (x 0).val

/-- The recorded waits of a core that has waited for nothing but the pipeline's copies. -/
def low (c : Dev nD) : Set (SemLoc sig × HIx 1) := {p | (K (F := F)).lev (SparseCore.T c, p.1) p.2 ≤ 0}

/-- The proof data of the pipeline: both arrays as found; after the body the input's buffer as fetched and the result's at
    its block of the flat table; the core owes the SparseCore call's start signals throughout. -/
def dat (c : Dev nD) : Dat τ (Elt F) (HIx 1) ℕ UU ℕ cfg0 c where
  A w := V c (Pipeline.arrRef spec0 w)
  after w t := match w with
    | ⟨0, _⟩ => win0_0.fill (grid0.coords t) (fun _ => Scalar.ofBits .f32 0#32) (inBlk V c t)
    | ⟨1, _⟩ => outBlk V c t
  Φ _ := iprop(emp)
  q _ := fullShare
  owed _ := (K (F := F)).Otc c 0
  recorded _ := low (F := F) c

/-- The pipelines have no prefetched tables. -/
abbrev adm (p : Fin 1) : (pcfgs (F := F) p).Adm := (cfgs p).toPCfg_adm

/-- The same as a family over the pipelines. -/
def pdats (p : Fin 1) (c : Dev nD) : Dat τ (Elt F) (HIx 1) ℕ UU ℕ (Pipeline.pin (pcfgs (F := F)) adm p) c := dat V c

/-! ## What the body finds -/

theorem before_in (c : Dev nD) (t : Fin cfg0.N) (e) :
    (dat V c).before (0 : Fin 2) t e = win0_0.fill (grid0.coords t) e (inBlk V c t) := by
  unfold Dat.before; rw [if_pos (fetch0_0 t)]; rfl

/-! ## The extents of the copies -/

/-- How many words of the block at point `t` lie inside the flat table: all of them but at the last point. -/
def ext (t : Fin cfg0.N) : ℕ := if t.val = 4 then 502784 else 524288

/-- How much of an output block lies in the array. -/
theorem out_size (t : Fin cfg0.N) : win0_1.xsize (grid0.coords t) 0 = ext t := by
  rcases fin_N0 t with rfl | rfl | rfl | rfl | rfl <;> decide +kernel

/-- An input block has one row. -/
theorem in_size0 (t : Fin cfg0.N) : win0_0.xsize (grid0.coords t) 0 = 1 := by
  rcases fin_N0 t with rfl | rfl | rfl | rfl | rfl <;> decide +kernel

/-- An input block has at least as many columns in its array as the output block in its own. -/
theorem in_size1 (t : Fin cfg0.N) : ext t ≤ win0_0.xsize (grid0.coords t) 1 := by
  rcases fin_N0 t with rfl | rfl | rfl | rfl | rfl <;> decide +kernel

/-- The output block's number is the grid point's. -/
theorem out_index (t : Fin cfg0.N) : win0_1.index t 0 = t.val := by
  rcases fin_N0 t with rfl | rfl | rfl | rfl | rfl <;> decide +kernel

/-- The input block's number is the grid point's. -/
theorem in_index (t : Fin cfg0.N) : win0_0.index t 1 = t.val := by
  rcases fin_N0 t with rfl | rfl | rfl | rfl | rfl <;> decide +kernel

/-- The copied-in block at `(0, n)` is the row's word at `524288 t + n`. -/
theorem inBlk_at (c : Dev nD) (t : Fin cfg0.N) (j : (win0_0.xblock (grid0.coords t)).Idx) :
    inBlk V c t j = rowAt V c (524288 * t.val + (j 1).val) := by
  unfold inBlk rowAt
  show (V c main_v0 : S1x2600000.Idx → F .f32) ((win0_0.blk t).view.emb j) = _
  congr 1
  funext a
  match a with
  | 0 => exact Subsingleton.elim (α := Fin 1) _ _
  | 1 =>
    have h := ((win0_0.blk t).view.emb j 1).isLt
    have e : ((win0_0.blk t).view.emb j 1).val = 524288 * t.val + (j 1).val := by
      show win0_0.index t 1 * 524288 + 1 * (j 1).val = _
      rw [in_index]; omega
    apply Fin.ext
    show _ = (524288 * t.val + (j 1).val) % 2600000
    rw [← e]; exact (Nat.mod_eq_of_lt h).symm

/-- Position `j` of a flat block, in the block as a single row. -/
def rowIx (j : S524288.Idx) : S1x524288.Idx := Fin.cons ⟨0, Nat.one_pos⟩ j

/-- The body's payload drops the row's unit axis. -/
theorem pay_apply (X : S1x524288.Idx → Elt F .f32) (j : S524288.Idx) : k0_pay1 X j = X (rowIx j) := by
  unfold k0_pay1
  exact shapeCast_dropUnit_apply (n := 1) ![524288] X _ j

/-- The body's payload on a fetched buffer is, on the part inside the flat table, that table's block. -/
theorem cut_pay (c : Dev nD) (t : Fin cfg0.N) (e : S1x524288.Idx → Elt F .f32) :
    win0_1.cut (grid0.coords t) (k0_pay1 (win0_0.fill (grid0.coords t) e (inBlk V c t))) = win0_1.cut (grid0.coords t) (outBlk V c t) := by
  funext j
  have hj : (j 0).val < ext t := by rw [← out_size]; exact (j 0).isLt
  have hj' : (j 0).val < 524288 := lt_of_lt_of_le hj (by unfold ext; split <;> omega)
  let k : (win0_0.xblock (grid0.coords t)).Idx := fun
    | 0 => ⟨0, by show 0 < win0_0.xsize (grid0.coords t) 0; rw [in_size0]; exact Nat.one_pos⟩
    | 1 => ⟨(j 0).val, lt_of_lt_of_le hj (in_size1 t)⟩
  have e1 := pay_apply (F := F) (win0_0.fill (grid0.coords t) e (inBlk V c t)) (win0_1.xinj (grid0.coords t) j)
  have e2 : (rowIx (win0_1.xinj (grid0.coords t) j) : S1x524288.Idx) = win0_0.xinj (grid0.coords t) k := by
    funext a
    match a with
    | 0 => exact Subsingleton.elim (α := Fin 1) _ _
    | 1 => rfl
  have e3 := win0_0.fill_xinj (grid0.coords t) e (inBlk V c t) k
  exact e1.trans ((congrArg _ e2).trans (e3.trans (inBlk_at V c t k)))

/-- What the body stores agrees with the flat table's block on the part that is copied out. -/
theorem fill_pay (c : Dev nD) (t : Fin cfg0.N) (e : S1x524288.Idx → Elt F .f32) :
    win0_1.fill (grid0.coords t) (k0_pay1 (win0_0.fill (grid0.coords t) e (inBlk V c t))) (win0_1.cut (grid0.coords t) (outBlk V c t))
      = k0_pay1 (win0_0.fill (grid0.coords t) e (inBlk V c t)) :=
  win0_1.fill_congr_cut _ (cut_pay V c t e)

/-! ## The body -/

/-- The body on any of the staging buffers: the whole of the first is loaded and stored, reshaped, to the second. -/
theorem retile_body (c : Dev nD) (E : Set ℕ) (i : grid0.Coords) (s0 s1 : Fin 2)
    (X0 : S1x524288.Idx → Elt F .f32) (X1 : S524288.Idx → Elt F .f32) (Q : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0 ∗ owns (c : Thread nD τ) (stage0_1 s1) fullShare (k0_pay1 X0)) -∗ Q ⟨⟩))
      ⊢ wp (M := 𝕄) frame (wpE (defs₀ (F := F)) 𝒱₀ c none) E
          (cc0__retile_body i (stage0_0 s0) (hstage0_0 s0) (stage0_1 s1) (hstage0_1 s1)) Q := by
  have hz : (![0, 0] : Fin 2 → Nat) = fun _ => 0 := funext fun a => by fin_cases a <;> rfl
  have hz1 : (![0] : Fin 1 → Nat) = fun _ => 0 := funext fun a => by fin_cases a; rfl
  have ha0 : ∀ f, (Memref.whole cc0_stg0_0 : Memref sig .tc _ _ _).view.readAt (Elt F) (Rect.unit (s := S1x524288) ![0, 0] S1x524288.size
        inb_S1x524288_S1x524288_0_0).toLoadRect f = f := Memref.readAt_unit_zero (Elt F) cc0_stg0_0 hz _
  have ha1 : ∀ f, (Memref.whole cc0_stg0_1 : Memref sig .tc _ _ _).view.readAt (Elt F) (Rect.unit (s := S1x524288) ![0, 0] S1x524288.size
        inb_S1x524288_S1x524288_0_0).toLoadRect f = f := Memref.readAt_unit_zero (Elt F) cc0_stg0_1 hz _
  have hb0 : ∀ f w, (((Memref.whole cc0_stg1_0).access (Rect.unit (s := S524288) ![0] S524288.size inb_S524288_S524288_0)) :
        View sig .tc _ _ _).write (Elt F) f w Finset.univ = w := Memref.write_access_unit_zero_univ (Elt F) cc0_stg1_0 hz1 _
  have hb1 : ∀ f w, (((Memref.whole cc0_stg1_1).access (Rect.unit (s := S524288) ![0] S524288.size inb_S524288_S524288_0)) :
        View sig .tc _ _ _).write (Elt F) f w Finset.univ = w := Memref.write_access_unit_zero_univ (Elt F) cc0_stg1_1 hz1 _
  fin_cases s0 <;> fin_cases s1
  all_goals
    simp only [owns_whole_eq, cc0__retile_body_eq_skeleton]; unfold cc0__retile_body_skel
    simp only [Prog.lift, Prog.bind_op, Prog.bind_ret]
    iintro ⟨⟨⟨%f0, %hf0, H0⟩, ⟨%f1, %hf1, H1⟩⟩, Hk⟩
    sl_steps
    iapply Hk
    simp only [ha0, ha1, hb0, hb1]
    isplitl [H0]
    · iexists f0; isplitr; · ipureintro; exact hf0
      iexact H0
    · iexists k0_pay1 f0; isplitr; · ipureintro; rw [hf0]
      iexact H1

/-- The library's body obligation: each window is stated only on the part its copies move. -/
theorem retile_obl (c : Dev nD) : BodyObligationLoose (dat V c) (defs₀ (F := F)) 𝒱₀ none Set.univ := fun t => by
  rw [bigSep_W0, bigSep_W0]
  simp only
  rw [show (dat V c).Φ t.succ = (dat V c).Φ t.castSucc from rfl,
    show (dat V c).owesAt none t.succ = (dat V c).owesAt none t.castSucc from rfl]
  iintro ⟨HΦ, Ho, ⟨%d0, H0⟩, ⟨%d1, H1⟩⟩
  rw [before_in V c t d0]
  iapply (retile_body (F := F) c Set.univ (grid0.coords t) (cfg0.slots t 0) (cfg0.slots t 1)
    (win0_0.fill (grid0.coords t) d0 (inBlk V c t)) ((dat V c).before (1 : Fin 2) t d1) _)
  isplitl [H0 H1]
  · isplitl [H0]
    · iexact H0
    · iexact H1
  iintro ⟨H0, H1⟩
  isplitl [HΦ]; · iexact HΦ
  isplitl [Ho]; · iexact Ho
  isplitl [H0]
  · iexists d0
    change _ ⊢ owns (c : Thread nD τ) (stage0_0 (cfg0.slots t 0)) fullShare (win0_0.fill (grid0.coords t) d0 (win0_0.cut (grid0.coords t)
      (win0_0.fill (grid0.coords t) (fun _ => Scalar.ofBits .f32 0#32) (inBlk V c t))))
    rw [win0_0.cut_fill]; try iexact H0
  · iexists (k0_pay1 (win0_0.fill (grid0.coords t) d0 (inBlk V c t)))
    change _ ⊢ owns (c : Thread nD τ) (stage0_1 (cfg0.slots t 1)) fullShare (win0_1.fill (grid0.coords t)
      (k0_pay1 (win0_0.fill (grid0.coords t) d0 (inBlk V c t))) (win0_1.cut (grid0.coords t) (outBlk V c t)))
    rw [fill_pay]; try iexact H1

end Cert.Proof

end
-- ==== Proof.Region.lean ====
/-
  The TensorCore call's flat table in full, and the call as a step of @main.
-/
module

public import proofs.«01_k».proof.Proof.Retile
public import Idealize.ShloMosaic.Lib.Pipeline.RegionsLoop

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable {d : Dev nD} {L : grid1.Coords} {vI : S26x16384.Idx → BitVec 32}

open Idealize.ShloMosaic.TcCoe
open Idealize.ShloMosaic.Pipeline (Dat Cfg Window)

variable (V : Vals F)

/-! ## The arrays after the run -/

/-- What is copied out at point `t` is the flat table's block there. -/
theorem cut_out (c : Dev nD) (t : Fin cfg0.N) :
    win0_1.cut (grid0.coords t) (outBlk V c t) = (win0_1.blk t).view.read (Elt F) (flat V c : S2599936.Idx → Elt F .f32) := by
  funext j
  show rowAt V c (524288 * t.val + (j 0).val) = rowAt V c (win0_1.index t 0 * 524288 + 1 * (j 0).val)
  rw [out_index]; congr 1; omega

/-- A position is in point `t`'s block iff it is among the block's positions inside the flat table. -/
theorem mem_out (t : Fin cfg0.N) (i : S2599936.Idx) :
    i ∈ (win0_1.blk t).view.setOn Finset.univ ↔ 524288 * t.val ≤ (i 0 : Nat) ∧ (i 0 : Nat) < 524288 * t.val + ext t := by
  rw [View.setOn_univ]
  show i ∈ ((View.whole main_v1).slice (win0_1.rect t)).set ↔ _
  rw [View.set_slice_whole, Rect.mem_set_unit]
  have e : win0_1.index t 0 * win0_1.size 0 = 524288 * t.val := by
    rw [out_index]; show t.val * 524288 = _; omega
  refine ⟨fun h => ?_, fun h a => ?_⟩
  · have h0 := h 0
    change win0_1.index t 0 * win0_1.size 0 ≤ (i 0 : Nat) ∧ (i 0 : Nat) < win0_1.index t 0 * win0_1.size 0 + win0_1.xsize (grid0.coords t) 0 at h0
    rwa [e, out_size] at h0
  · obtain rfl : a = 0 := Subsingleton.elim (α := Fin 1) _ _
    change win0_1.index t 0 * win0_1.size 0 ≤ (i 0 : Nat) ∧ (i 0 : Nat) < win0_1.index t 0 * win0_1.size 0 + win0_1.xsize (grid0.coords t) 0
    rwa [e, out_size]

/-- After the five copies the result array is the flat table. -/
theorem final_out (c : Dev nD) : (dat V c).arrAt (1 : Fin 2) cfg0.N = (flat V c : S2599936.Idx → Elt F .f32) := by
  rw [show cfg0.N = t0_4.val + 1 from rfl, (dat V c).arrAt_succ (1 : Fin 2) t0_4, if_pos (flush0_1 _),
    show t0_4.val = t0_3.val + 1 from rfl, (dat V c).arrAt_succ (1 : Fin 2) t0_3, if_pos (flush0_1 _),
    show t0_3.val = t0_2.val + 1 from rfl, (dat V c).arrAt_succ (1 : Fin 2) t0_2, if_pos (flush0_1 _),
    show t0_2.val = t0_1.val + 1 from rfl, (dat V c).arrAt_succ (1 : Fin 2) t0_1, if_pos (flush0_1 _),
    show t0_1.val = t0_0.val + 1 from rfl, (dat V c).arrAt_succ (1 : Fin 2) t0_0, if_pos (flush0_1 _)]
  change (win0_1.blk t0_4).view.write (Elt F) ((win0_1.blk t0_3).view.write (Elt F) ((win0_1.blk t0_2).view.write (Elt F)
    ((win0_1.blk t0_1).view.write (Elt F) ((win0_1.blk t0_0).view.write (Elt F) (V c main_v1)
      (win0_1.cut (grid0.coords t0_0) (outBlk V c t0_0)) Finset.univ)
      (win0_1.cut (grid0.coords t0_1) (outBlk V c t0_1)) Finset.univ)
      (win0_1.cut (grid0.coords t0_2) (outBlk V c t0_2)) Finset.univ)
      (win0_1.cut (grid0.coords t0_3) (outBlk V c t0_3)) Finset.univ)
      (win0_1.cut (grid0.coords t0_4) (outBlk V c t0_4)) Finset.univ = _
  rw [cut_out, cut_out, cut_out, cut_out, cut_out, View.write_read_eq_piecewise, View.write_read_eq_piecewise,
    View.write_read_eq_piecewise, View.write_read_eq_piecewise, View.write_read_eq_piecewise]
  funext i
  have h20 : (i 0 : Nat) < 2599936 := (i 0).isLt
  have m0 := mem_out t0_0 i; have m1 := mem_out t0_1 i; have m2 := mem_out t0_2 i; have m3 := mem_out t0_3 i; have m4 := mem_out t0_4 i
  simp only [t0_0, t0_1, t0_2, t0_3, t0_4, ext] at m0 m1 m2 m3 m4
  norm_num at m0 m1 m2 m3 m4
  unfold Finset.piecewise
  split
  · rfl
  split
  · rfl
  split
  · rfl
  split
  · rfl
  split
  · rfl
  rename_i h4 h3 h2 h1 h0
  exfalso
  simp only [t0_0, t0_1, t0_2, t0_3, t0_4] at h0 h1 h2 h3 h4
  rw [m4] at h4; rw [m3] at h3; rw [m2] at h2; rw [m1] at h1; rw [m0] at h0; omega

/-! ## The call as a step of @main -/

/-- The buffers after the call: the flat table in its buffer, everything else as found. -/
def retiled (c : Dev nD) : (b : Ref sig .tc) → Buf (Elt F) ((c : Thread nD τ).loc b) := Function.update (V c) main_v1 (flat V c : S2599936.Idx → Elt F .f32)

/-- After the call the flat table's buffer holds the flat table. -/
theorem retiled_self (c : Dev nD) : retiled V c main_v1 = (flat V c : S2599936.Idx → Elt F .f32) := Function.update_self _ _ _
/-- Every other buffer is as before. -/
theorem retiled_ne (c : Dev nD) {b : Ref sig .tc} (h : b ≠ main_v1) : retiled V c b = V c b := Function.update_of_ne h _ _

/-- What the core owes while the call runs: the SparseCore call's start signals, and its recorded waits low. -/
abbrev owesLow (c : Dev nD) : sProp 𝕄 :=
  iprop(∃ W, ⌜(K (F := F)).WBelow (SparseCore.T c) W 0⌝ ∗ owes (SparseCore.T c) ((K (F := F)).Otc c 0) W)

/-- The TensorCore owes nothing outside the SparseCore call's rounds. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- The waits that the pipeline's proof data allows to be recorded are low ones. -/
theorem bound_low (c : Dev nD) (t : Fin (cfg0.N + 1)) : (dat V c).bound none t ⊆ low (F := F) c := by
  rintro p (h | h)
  · exact h
  · obtain ⟨w, s, rfl⟩ := h
    show (K (F := F)).lev _ none ≤ 0
    rw [SparseCore.Cfg.lev_none]

set_option backward.isDefEq.respectTransparency.types false in
/-- The call as a region of @main: from the unscoped buffers at `V` to the unscoped buffers with the flat table written. -/
def reg : Pipeline.RegionSeg (pcfgs (F := F)) (adm (F := F)) (pdats V) none (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := retile_obl V c
  hwaits c := Pipeline.cellsWaits_intro _ _ none 0 c fun w s t => (K (F := F)).mayWait_none (thr := SparseCore.T c) _ (Otc_none c 0)
  pre c := iprop(unscopedBufs c (V c) ∗ owesLow c)
  post c := iprop(unscopedBufs c (retiled V c) ∗ owesLow c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) (adm (F := F)) (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, %hW, HO⟩; iexists W; isplitr
      · ipureintro; exact fun p hp => Or.inl (hW p hp)
      iexact HO
    isplitr; · iempintro
    iexact Hrest
  hin c := by
    rw [show (pdats V 0 c).Φ 0 = BI.emp from rfl]
    iintro ⟨-, -, -⟩; iempintro
  hout c := by
    have he := scopedRest0_eq (Ix := HIx 1) (Val := Elt F) (Name := ℕ) (U := UU) (Lvl := ℕ) c
    rw [Pipeline.ownSems0_none]
    iintro -
    isplitr; · iempintro
    isplitr; · iempintro
    iapply (Entails.of_eq he.symm); iempintro
  hexit c := by
    have hjoin := Pipeline.unscopedBufs_of_arrays (p := 0) (pcfgs (F := F)) (adm (F := F)) (Ix := HIx 1) (Name := ℕ) (U := UU) (Lvl := ℕ) launch0.win
      launch0.arr_whole c (pdats V) ((pdats V 0 c).share_full fun _ => rfl) (V c) (retiled V c) ((pdats V 0 c).arrAt · cfg0.N)
      (fun w => by
        fin_cases w
        · exact ((pdats V 0 c).arrAt_in 0 rfl _).trans (retiled_ne V c (by decide : main_v0 ≠ main_v1)).symm
        · exact (final_out V c).trans (retiled_self V c).symm)
      (fun b hb => retiled_ne V c fun (h : b = main_v1) => hb (h ▸ Finset.mem_image.mpr ⟨1, Finset.mem_univ _, rfl⟩))
    iintro ⟨Ha, HO, -, Hrest⟩
    imodintro
    isplitl [Ha Hrest]
    · iapply hjoin; isplitl [Ha] <;> iassumption
    icases HO with ⟨%W, %hW, HO⟩; iexists W; isplitr
    · ipureintro; exact fun p hp => bound_low V c _ (hW hp)
    iexact HO

end Cert.Proof

end
-- ==== Proof.Words.lean ====
/-
  The arithmetic of the indices: the position each index of a field is sent to, computed in 32-bit words.
-/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## Offsets of the first four loops -/

/-- The first loop's block starts. -/
theorem off27_eq (t : Fin k1_t1_loop.trips) : k1_off27 t = ![16 * t.val] := by
  revert t; decide +kernel

/-- The second loop's block starts. -/
theorem off28_eq (t : Fin k1_t2_loop.trips) : k1_off28 t = ![3584 + 16 * t.val] := by
  revert t; decide +kernel

/-- The third loop's block starts. -/
theorem off29_eq (t : Fin k1_t3_loop.trips) : k1_off29 t = ![6656 + 16 * t.val] := by
  revert t; decide +kernel

/-- The fourth loop's block starts. -/
theorem off30_eq (t : Fin k1_t4_loop.trips) : k1_off30 t = ![10240 + 16 * t.val] := by
  revert t; decide +kernel

/-! ## Words below `2 ^ 31` -/

/-- The signed order on words below `2 ^ 31` is the order of the numbers. -/
theorem slt_small {x y : BitVec 32} (hx : x.toNat < 2 ^ 31) (hy : y.toNat < 2 ^ 31) : x.slt y = decide (x.toNat < y.toNat) := by
  rw [BitVec.slt_eq_decide, BitVec.toInt_eq_toNat_cond, BitVec.toInt_eq_toNat_cond, if_pos (by omega), if_pos (by omega)]
  simp

/-- The same for the weak order. -/
theorem sle_small {x y : BitVec 32} (hx : x.toNat < 2 ^ 31) (hy : y.toNat < 2 ^ 31) : x.sle y = decide (x.toNat ≤ y.toNat) := by
  rw [BitVec.sle_eq_decide, BitVec.toInt_eq_toNat_cond, BitVec.toInt_eq_toNat_cond, if_pos (by omega), if_pos (by omega)]
  simp

/-- The position an index of field `f` is sent to, as the lane computes it. -/
theorem lane_pos {v : BitVec 32} (hv : v.toNat < 100000) {f : ℕ} (hf : f < 26) {c : BitVec 32} (hc : c = BitVec.ofNat 32 (f * 100000)) :
    IntOp.minsi (IntOp.addi v c) 2599935#32 = BitVec.ofNat 32 (posN v f) := by
  subst hc
  have hn : (v + BitVec.ofNat 32 (f * 100000)).toNat = v.toNat + f * 100000 := by
    rw [BitVec.toNat_add, BitVec.toNat_ofNat]; omega
  have h2 : (2599935#32 : BitVec 32).toNat = 2599935 := rfl
  have hp : (posN v f) % 2 ^ 32 = posN v f := by unfold posN; omega
  show (if (v + BitVec.ofNat 32 (f * 100000)).slt 2599935#32 then _ else _) = _
  rw [slt_small (by omega) (by omega), hn, h2]
  apply BitVec.eq_of_toNat_eq
  rw [BitVec.toNat_ofNat, hp]
  unfold posN
  by_cases h : v.toNat + f * 100000 < 2599935
  · simp only [h, decide_true, if_true]; show (v + BitVec.ofNat 32 (f * 100000)).toNat = _; rw [hn]; omega
  · simp only [h, decide_false, Bool.false_eq_true, if_false]; rw [h2]; omega

/-- A clamped position lies within the flat table. -/
theorem posN_lt (v : BitVec 32) (f : ℕ) : posN v f < 2599936 := by unfold posN; omega

/-- A clamped position as a word keeps its number. -/
theorem toNat_pos (v : BitVec 32) (f : ℕ) : (BitVec.ofNat 32 (posN v f)).toNat = posN v f := by
  rw [BitVec.toNat_ofNat]; have := posN_lt v f; omega

/-! ## What the loops store -/

/-- The scalar the trip adds to every lane: the field's offset. -/
theorem c4_eq (t : Fin k1_t1_loop.trips) : Scalar.muli (Scalar.addi 0#32 (Scalar.select (Scalar.andi (Scalar.cmpi .ne (Scalar.subi (Scalar.extui (Scalar.cmpi .sgt (Scf.iv 0#32 1#32 t) 0#32) : BitVec 32) (Scalar.extui (Scalar.cmpi .slt (Scf.iv 0#32 1#32 t) 0#32))) (Scalar.subi (Scalar.extui (Scalar.cmpi .sgt 32#32 0#32) : BitVec 32) (Scalar.extui (Scalar.cmpi .slt 32#32 0#32)))) (Scalar.cmpi .ne (Scalar.remsi (Scf.iv 0#32 1#32 t) 32#32) 0#32)) (Scalar.subi (Scalar.divsi (Scf.iv 0#32 1#32 t) 32#32) 1#32) (Scalar.divsi (Scf.iv 0#32 1#32 t) 32#32))) 100000#32 = BitVec.ofNat 32 ((t.val / 32) * 100000) := by
  revert t; decide +kernel

/-- A lane of what loop 1 stores back: the position of its index. -/
theorem pay4_apply (t : Fin k1_t1_loop.trips) (x : Vec F S16 .i32) (i : S16.Idx) (hv : (x i).toNat < 100000) :
    k1_pay4 (F := F) k1_pay3 t x i = BitVec.ofNat 32 (posN (x i) (t.val / 32)) := by
  have ht : t.val < 224 := t.isLt
  exact lane_pos hv (by omega) (c4_eq t)

/-- The scalar the trip adds to every lane: the field's offset. -/
theorem c5_eq (t : Fin k1_t2_loop.trips) : Scalar.muli (Scalar.addi 7#32 (Scalar.select (Scalar.andi (Scalar.cmpi .ne (Scalar.subi (Scalar.extui (Scalar.cmpi .sgt (Scf.iv 0#32 1#32 t) 0#32) : BitVec 32) (Scalar.extui (Scalar.cmpi .slt (Scf.iv 0#32 1#32 t) 0#32))) (Scalar.subi (Scalar.extui (Scalar.cmpi .sgt 32#32 0#32) : BitVec 32) (Scalar.extui (Scalar.cmpi .slt 32#32 0#32)))) (Scalar.cmpi .ne (Scalar.remsi (Scf.iv 0#32 1#32 t) 32#32) 0#32)) (Scalar.subi (Scalar.divsi (Scf.iv 0#32 1#32 t) 32#32) 1#32) (Scalar.divsi (Scf.iv 0#32 1#32 t) 32#32))) 100000#32 = BitVec.ofNat 32 ((7 + t.val / 32) * 100000) := by
  revert t; decide +kernel

/-- A lane of what loop 2 stores back: the position of its index. -/
theorem pay5_apply (t : Fin k1_t2_loop.trips) (x : Vec F S16 .i32) (i : S16.Idx) (hv : (x i).toNat < 100000) :
    k1_pay5 (F := F) k1_pay3 0#32 t x i = BitVec.ofNat 32 (posN (x i) (7 + t.val / 32)) := by
  have ht : t.val < 192 := t.isLt
  exact lane_pos hv (by omega) (c5_eq t)

/-- The scalar the trip adds to every lane: the field's offset. -/
theorem c6_eq (t : Fin k1_t3_loop.trips) : Scalar.muli (Scalar.addi 13#32 (Scalar.select (Scalar.andi (Scalar.cmpi .ne (Scalar.subi (Scalar.extui (Scalar.cmpi .sgt (Scf.iv 0#32 1#32 t) 0#32) : BitVec 32) (Scalar.extui (Scalar.cmpi .slt (Scf.iv 0#32 1#32 t) 0#32))) (Scalar.subi (Scalar.extui (Scalar.cmpi .sgt 32#32 0#32) : BitVec 32) (Scalar.extui (Scalar.cmpi .slt 32#32 0#32)))) (Scalar.cmpi .ne (Scalar.remsi (Scf.iv 0#32 1#32 t) 32#32) 0#32)) (Scalar.subi (Scalar.divsi (Scf.iv 0#32 1#32 t) 32#32) 1#32) (Scalar.divsi (Scf.iv 0#32 1#32 t) 32#32))) 100000#32 = BitVec.ofNat 32 ((13 + t.val / 32) * 100000) := by
  revert t; decide +kernel

/-- A lane of what loop 3 stores back: the position of its index. -/
theorem pay6_apply (t : Fin k1_t3_loop.trips) (x : Vec F S16 .i32) (i : S16.Idx) (hv : (x i).toNat < 100000) :
    k1_pay6 (F := F) k1_pay3 t x i = BitVec.ofNat 32 (posN (x i) (13 + t.val / 32)) := by
  have ht : t.val < 224 := t.isLt
  exact lane_pos hv (by omega) (c6_eq t)

/-- The scalar the trip adds to every lane: the field's offset. -/
theorem c7_eq (t : Fin k1_t4_loop.trips) : Scalar.muli (Scalar.addi 20#32 (Scalar.select (Scalar.andi (Scalar.cmpi .ne (Scalar.subi (Scalar.extui (Scalar.cmpi .sgt (Scf.iv 0#32 1#32 t) 0#32) : BitVec 32) (Scalar.extui (Scalar.cmpi .slt (Scf.iv 0#32 1#32 t) 0#32))) (Scalar.subi (Scalar.extui (Scalar.cmpi .sgt 32#32 0#32) : BitVec 32) (Scalar.extui (Scalar.cmpi .slt 32#32 0#32)))) (Scalar.cmpi .ne (Scalar.remsi (Scf.iv 0#32 1#32 t) 32#32) 0#32)) (Scalar.subi (Scalar.divsi (Scf.iv 0#32 1#32 t) 32#32) 1#32) (Scalar.divsi (Scf.iv 0#32 1#32 t) 32#32))) 100000#32 = BitVec.ofNat 32 ((20 + t.val / 32) * 100000) := by
  revert t; decide +kernel

/-- A lane of what loop 4 stores back: the position of its index. -/
theorem pay7_apply (t : Fin k1_t4_loop.trips) (x : Vec F S16 .i32) (i : S16.Idx) (hv : (x i).toNat < 100000) :
    k1_pay7 (F := F) k1_pay3 t x i = BitVec.ofNat 32 (posN (x i) (20 + t.val / 32)) := by
  have ht : t.val < 160 := t.isLt
  exact lane_pos hv (by omega) (c7_eq t)

/-- A lane of what loop 5 stores as the tail position. -/
theorem pay8_apply (x : Vec F S16 .i32) (i : S16.Idx) (hv : (x i).toNat < 100000) : k1_pay8 (F := F) x i = tdw (x i) := by
  have h2 : (99936#32 : BitVec 32).toNat = 99936 := rfl
  show Scalar.select (BitVec.ofBool ((99936#32 : BitVec 32).sle (x i))) ((x i) - 99936#32 + 1#32) 0#32 = _
  rw [sle_small (by omega) (by omega), h2]
  unfold tdw Scalar.select
  by_cases h : 99936 ≤ (x i).toNat
  · simp only [h, decide_true, BitVec.ofBool_true, if_true]
    apply BitVec.eq_of_toNat_eq
    rw [BitVec.toNat_add, BitVec.toNat_sub]
    simp only [BitVec.toNat_ofNat]; omega
  · simp only [h, decide_false, BitVec.ofBool_false, if_false]; rfl

/-- A lane of what loop 5 stores back in the list. -/
theorem pay9_apply (x : Vec F S16 .i32) (i : S16.Idx) (hv : (x i).toNat < 100000) :
    k1_pay9 (F := F) k1_pay3 x i = BitVec.ofNat 32 (posN (x i) 25) := by
  show IntOp.minsi (IntOp.addi (x i) 2500000#32) 2599935#32 = _
  exact lane_pos hv (by decide) (by decide)

/-- The tail positions are within one past the tail table. -/
theorem tdw_lt {v : BitVec 32} (hv : v.toNat < 100000) : (tdw v).toNat < 65 := by
  unfold tdw; split
  · rw [BitVec.toNat_ofNat]; omega
  · decide

/-- A lane of the positions read in the tail table. -/
theorem pay1_apply (x : Vec F S16 .i32) (i : S16.Idx) (hx : (x i).toNat < 65) :
    (k1_pay1 (F := F) k1_pay10 x i).toNat = (x i).toNat - 1 := by
  show (if (0#32 : BitVec 32).slt (x i - 1#32) then x i - 1#32 else 0#32).toNat = _
  by_cases h : (x i).toNat = 0
  · have : x i = 0#32 := BitVec.eq_of_toNat_eq h
    rw [this]; rfl
  · have hn : (x i - 1#32).toNat = (x i).toNat - 1 := by
      rw [BitVec.toNat_sub]; simp only [BitVec.toNat_ofNat]; omega
    rw [slt_small (by decide) (by omega), hn]
    by_cases h1 : 0 < (x i).toNat - 1
    · rw [if_pos (by simpa using h1), hn]
    · rw [if_neg (by simpa using h1)]; simp; omega

/-- The positions read in the tail table are within it. -/
theorem chk1 (x : Vec F S16 .i32) (hx : ∀ i, (x i).toNat < 65) : k1_chk1 (k1_pay1 (F := F) k1_pay10 x) := by
  intro a i
  match a with
  | 0 =>
    show (k1_pay1 (F := F) k1_pay10 x i).toNat < 64
    have := hx i
    rw [pay1_apply x i this]; omega

end Cert.Proof

end
-- ==== Proof.Geometry.lean ====
/-
  The tile's buffers and pieces as sets of indices, and where the kernel's slices and vector accesses fall in them.
-/
module

public import proofs.«01_k».proof.Proof.Setup

@[expose] public section

noncomputable section

namespace Cert.Proof

open Cert.KernelIdeal Cert.KernelIdeal.Gen
open Idealize.ShloMosaic

variable {F : FTy → Type}

/-! ## The buffers the tile's program names -/

abbrev iV : Memref sig .scVector .hbm S26x16384 .i32 := Memref.whole main_v5_scv
abbrev wV : Memref sig .scVector .hbm S2599936 .f32 := Memref.whole main_v1_scv
abbrev tV : Memref sig .scVector .hbm S64 .f32 := Memref.whole main_v3_scv
abbrev bV : Memref sig .scVector .hbm S16 .f32 := Memref.whole main_v4_scv
abbrev oV : Memref sig .scVector .hbm S16384 .f32 := Memref.whole main_v6_scv
abbrev idxM : Memref sig .scVector .vmem S13312 .i32 := Memref.whole cc1_scratch0
abbrev valM : Memref sig .scVector .vmem S13312 .f32 := Memref.whole cc1_scratch1
abbrev tdM : Memref sig .scVector .vmem S512 .i32 := Memref.whole cc1_scratch2
abbrev wtM : Memref sig .scVector .vmem S64 .f32 := Memref.whole cc1_scratch3
abbrev accM : Memref sig .scVector .vmem S512 .f32 := Memref.whole cc1_scratch4
abbrev outM : Memref sig .scVector .vmem S512 .f32 := Memref.whole cc1_scratch5
abbrev biM : Memref sig .scVector .vmem S16 .f32 := Memref.whole cc1_scratch6

/-! ## Sets of positions -/

/-- The positions from `lo` up to `hi` of a list of 13312 words. -/
def seg (lo hi : ℕ) : Finset S13312.Idx := Finset.univ.filter fun x => lo ≤ (x 0).val ∧ (x 0).val < hi
/-- Field `f` of the tile's rows in the transposed index array. -/
def win (L : grid1.Coords) (f : ℕ) : Finset S26x16384.Idx :=
  Finset.univ.filter fun x => (x 0).val = f ∧ rb L ≤ (x 1).val ∧ (x 1).val < rb L + 512
/-- The tile's result rows. -/
def row (L : grid1.Coords) : Finset S16384.Idx := Finset.univ.filter fun x => rb L ≤ (x 0).val ∧ (x 0).val < rb L + 512

/-- Membership in a stretch of the list. -/
theorem mem_seg {lo hi : ℕ} {x : S13312.Idx} : x ∈ seg lo hi ↔ lo ≤ (x 0).val ∧ (x 0).val < hi := by simp [seg]
/-- Membership in one field of the tile's rows. -/
theorem mem_win {L : grid1.Coords} {f : ℕ} {x : S26x16384.Idx} :
    x ∈ win L f ↔ (x 0).val = f ∧ rb L ≤ (x 1).val ∧ (x 1).val < rb L + 512 := by simp [win]
/-- Membership in the tile's result rows. -/
theorem mem_row {L : grid1.Coords} {x : S16384.Idx} : x ∈ row L ↔ rb L ≤ (x 0).val ∧ (x 0).val < rb L + 512 := by simp [row]

/-! ## Where a slice of the list falls -/

theorem mem_unit1 {n : ℕ} {off size : Fin 1 → ℕ} {o : ℕ} (ho : off = ![o]) (inb) {x : (⟨1, ![n]⟩ : Shape).Idx} :
    x ∈ (Rect.unit (s := ⟨1, ![n]⟩) off size inb).set ↔ o ≤ (x 0).val ∧ (x 0).val < o + size 0 := by
  subst ho
  rw [Rect.mem_set_unit]
  exact ⟨fun h => h 0, fun h a => by fin_cases a; exact h⟩

/-- A slice of the index list is a stretch of it. -/
theorem set_idx {off size : Fin 1 → ℕ} {o : ℕ} (ho : off = ![o]) (inb) (hs) :
    (idxM.slice (Rect.unit (s := S13312) off size inb) hs).view.set = seg o (o + size 0) := by
  ext x
  show x ∈ ((View.whole cc1_scratch0).slice (Rect.unit (s := S13312) off size inb)).set ↔ _
  rw [View.set_slice_whole, mem_unit1 ho, mem_seg]

/-- A slice of the value buffer is a stretch of it. -/
theorem set_val {off size : Fin 1 → ℕ} {o : ℕ} (ho : off = ![o]) (inb) (hs) :
    (valM.slice (Rect.unit (s := S13312) off size inb) hs).view.set = seg o (o + size 0) := by
  ext x
  show x ∈ ((View.whole cc1_scratch1).slice (Rect.unit (s := S13312) off size inb)).set ↔ _
  rw [View.set_slice_whole, mem_unit1 ho, mem_seg]

/-- The window of the index array that a copy reads, squeezed to one row. -/
abbrev srcI (off : Fin 2 → ℕ) (inb : ∀ a, off a + S1x512.size a ≤ S26x16384.size a) : Memref sig .scVector .hbm S512 .i32 :=
  (iV.slice (Rect.unit (s := S26x16384) off S1x512.size inb) (fun _ => rfl)).squeeze S512 squeezes_S1x512_S512

/-- The window that a staged copy reads is one field of the tile's rows. -/
theorem set_srcI (L : grid1.Coords) {off : Fin 2 → ℕ} {f : ℕ} (ho : off = ![f, rb L]) (inb) :
    (srcI off inb).view.set = win L f := by
  subst ho
  show (((View.whole main_v5_scv).slice (Rect.unit (s := S26x16384) ![f, rb L] S1x512.size inb)).reshape S512 squeezes_S1x512_S512.numel_eq).set = _
  rw [View.set_reshape, View.set_slice_whole]
  ext x
  rw [Rect.mem_set_unit, mem_win]
  constructor
  · intro h
    have h0 := h 0; have h1 := h 1
    simp [S1x512] at h0 h1
    omega
  · rintro ⟨h0, h1⟩ a
    fin_cases a
    · simp [S1x512]; omega
    · simp [S1x512]; omega

/-- What a staging copy carries: word `y` is the index of field `f` at row `rb L + y`. -/
theorem read_srcI (L : grid1.Coords) {off : Fin 2 → ℕ} {f : ℕ} (hf : f < 26) (ho : off = ![f, rb L]) (inb)
    (g : S26x16384.Idx → BitVec 32) (y : S512.Idx) :
    (srcI off inb).view.read (Elt F) g y = rawN g L (512 * f + (y 0).val) := by
  subst ho
  have hy : (y 0).val < 512 := (y 0).isLt
  have hb := rb_le L
  refine (View.read_apply _ _).trans ((cast_eq _ _).trans ?_)
  unfold rawN
  refine congrArg g ?_
  have e := Shape.reshapeEquiv_eq_of_rowMajor (s := S1x512) (s' := S512) squeezes_S1x512_S512.numel_eq (x := y) (y := fun | 0 => ⟨0, by decide⟩ | 1 => y 0)
    (by rw [Shape.rowMajor_val_two, Shape.rowMajor_val_one]; simp)
  show (Rect.unit (s := S26x16384) ![f, rb L] S1x512.size inb).emb (Shape.reshapeEquiv squeezes_S1x512_S512.numel_eq y) = _
  rw [e]
  funext a
  apply Fin.ext
  match a with
  | 0 => show f + 1 * 0 = _; simp [ixI]; omega
  | 1 => show rb L + 1 * (y 0).val = _; simp [ixI]; omega

/-- What the list holds once field `f`'s copy has landed. -/
theorem write_idx (L : grid1.Coords) {off : Fin 1 → ℕ} {f : ℕ} (ho : off = ![512 * f]) (inb) (hs)
    (fd : S13312.Idx → BitVec 32) (g : S26x16384.Idx → BitVec 32) (w : S512.Idx → BitVec 32)
    (hw : ∀ y, w y = rawN g L (512 * f + (y 0).val)) (x : S13312.Idx) (hx : x ∈ seg (512 * f) (512 * f + 512)) :
    (idxM.slice (Rect.unit (s := S13312) off S512.size inb) hs).view.write (Elt F) fd w Finset.univ x = raw g L x := by
  subst ho
  rw [mem_seg] at hx
  have hm : x = (idxM.slice (Rect.unit (s := S13312) ![512 * f] S512.size inb) hs).view.emb (fun | 0 => ⟨(x 0).val - 512 * f, by show _ < 512; omega⟩) := by
    funext a; apply Fin.ext; fin_cases a
    show (x 0).val = 512 * f + 1 * ((x 0).val - 512 * f); omega
  conv_lhs => rw [hm]
  refine (View.write_emb_of_mem _ _ (Finset.mem_univ _)).trans ((cast_eq _ _).trans ?_)
  rw [hw]; unfold raw
  congr 1
  show 512 * f + ((x 0).val - 512 * f) = _; omega

end Cert.Proof

end
-- ==== Proof.Steps.lean ====
/-
  The steps of the tile's program, one lemma for each kind of step: staging one index column, waiting for one, gathering,
  and the loads and stores of 16 words.
-/
module

public import proofs.«01_k».proof.Proof.Geometry

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev cV (L : grid1.Coords) : Fin τ.nSC := (L 0).castLE hcore1
abbrev jV (L : grid1.Coords) : Fin τ.nSub := (L 1).castLE hsub1
/-- The tile's thread. -/
abbrev thr (d : Dev nD) (L : grid1.Coords) : Thread nD τ := V d (cV L) (jV L)

variable [FloatOps F]
variable (d : Dev nD) (L : grid1.Coords)

/-! ## The tile's ledger of waits -/

/-- The tile owes what it owed, and its waits are those it had or its own. -/
def OW (O : CellTallies nD τ sig (HIx 1)) (W : Waits sig (HIx 1)) : sProp 𝕄 :=
  iprop(Transfers.MayWaits (thr d L) (default : HIx 1) O ∗ ∃ W', ⌜∀ p ∈ W', p ∈ W ∨ p.2 = none⌝ ∗ owes (thr d L) O W')

/-! ## Staging -/

/-- What one staging copy counts on its semaphore. -/
abbrev credI : ℕ := (idxM.slice (Rect.unit (s := S13312) ![0] S512.size inb_S13312_S512_0) (fun _ => rfl)).view.dmaCredit

variable (vI : S26x16384.Idx → BitVec 32)

/-- Field `f`'s words of the list, at contents `g`, and its window of the index array. -/
def stageR (g : S13312.Idx → BitVec 32) (f : ℕ) : sProp 𝕄 :=
  iprop(((thr d L).loc cc1_scratch0 ↦[seg (512 * f) (512 * f + 512)]{fullShare} g)
    ∗ ((thr d L).loc main_v5_scv ↦[win L f]{fullShare} vI))

instance (g : S13312.Idx → BitVec 32) (f : ℕ) : BI.Storable (upEmb : UEmb _ 𝕄) (stageR (F := F) d L vI g f) := by
  unfold stageR; infer_instance

/-- A wave of `n` copies from field `f0`, the first `k` of them issued. -/
def StageIn (sem : DmaSem sig) (f0 n k : ℕ) (g : S13312.Idx → BitVec 32) : sProp 𝕄 :=
  iprop((bigSep (Transfers.pending (n := n) k) fun t => stageR (F := F) d L vI g (f0 + t.val))
    ∗ Transfers.Batch (EC (F := F)) (thr d L) (.dma sem) (default : HIx 1) credI (fun t : Fin n => stageR (F := F) d L vI (raw vI L) (f0 + t.val)) k 0)

/-- The wave with every copy issued and the first `u` waited for. -/
def StageMid (sem : DmaSem sig) (f0 n u : ℕ) : sProp 𝕄 :=
  Transfers.Batch (EC (F := F)) (thr d L) (.dma sem) (default : HIx 1) credI (fun t : Fin n => stageR (F := F) d L vI (raw vI L) (f0 + t.val)) n (u * credI)

variable {d L vI}

/-- Issuing the next copy of a wave. -/
theorem stage_issue {sem : DmaSem sig} {f0 n k : ℕ} {g : S13312.Idx → BitVec 32} (f : ℕ) (hk : k < n) (hf : f0 + k = f) (hf26 : f < 26)
    {off : Fin 2 → ℕ} (ho : off = ![f, rb L]) {inb} {o : Fin 1 → ℕ} (ho' : o = ![512 * f]) {inb'} {hsrc hdst hsem} {Q : PUnit → sProp 𝕄} :
    StageIn d L vI sem f0 n k g
      ⊢ iprop((StageIn d L vI sem f0 n (k + 1) g -∗ Q ⟨⟩)
          -∗ wp frame (wpE (defs₀ (F := F)) 𝒱₀ (thr d L) none) Set.univ
            (Prog.lift (.enqueueDma (srcI off inb) (.here (idxM.slice (Rect.unit (s := S13312) o S512.size inb') (fun _ => rfl))) (.dma sem) hsrc hdst hsem)) Q) := by
  subst hf
  unfold StageIn
  rw [Transfers.bigSep_pending_step _ k hk]
  iintro ⟨⟨HR, Hp⟩, HB⟩ Hk
  ihave HR' := (show stageR (F := F) d L vI g (f0 + k) ⊢ _ from Entails.of_eq (by unfold stageR; rfl)) $$ HR
  icases HR' with ⟨Hd, Hs⟩
  iapply (Transfers.wp_dmaBatch (EC (F := F)) 𝒱₀ (thr d L) none (src := srcI off inb)
    (dst := idxM.slice (Rect.unit (s := S13312) o S512.size inb') (fun _ => rfl))
    (Sd := seg (512 * (f0 + k)) (512 * (f0 + k) + 512)) (D := fun t : Fin n => stageR (F := F) d L vI (raw vI L) (f0 + t.val)) (u := 0)
    (default : HIx 1) credI rfl (set_idx ho' inb' _).subset hk (Nat.zero_le _) (q := fullShare) (fs := vI) (fd := g) ?hD) $$ [Hs Hd HB]
  case hD =>
    rw [set_srcI L ho]
    unfold stageR
    iintro ⟨Ha, Hb⟩
    isplitl [Ha]
    · iapply (Entails.of_eq (pointsTo_congr ?_)) $$ Ha
      intro x hx
      exact write_idx L ho' inb' _ g vI _ (fun y => read_srcI (F := F) L hf26 ho inb vI y) x hx
    · iexact Hb
  · rw [set_srcI L ho]
    isplitl [Hs]; · iexact Hs
    isplitl [Hd]; · iexact Hd
    iexact HB
  iintro HB
  rw [wp_ret]; imodintro
  iapply Hk
  isplitl [Hp]; · iexact Hp
  iexact HB

/-- Waiting for a copy of a wave other than the last. -/
theorem stage_wait {sem : DmaSem sig} {f0 n u : ℕ} (hu : u + 1 < n) {O : CellTallies nD τ sig (HIx 1)} {W : Waits sig (HIx 1)}
    {sp : Space} {s : Shape} {e : EltTy} {src : Memref sig .scVector sp s e} {o : Fin 1 → ℕ} {inb'} {hsrc hdst} {Q : PUnit → sProp 𝕄} :
    iprop(StageMid d L vI sem f0 n u ∗ OW d L O W)
      ⊢ iprop((iprop(StageMid d L vI sem f0 n (u + 1) ∗ OW d L O W) -∗ Q ⟨⟩)
          -∗ wp frame (wpE (defs₀ (F := F)) 𝒱₀ (thr d L) none) Set.univ
            (Prog.lift (.waitDma2 sem src (idxM.slice (Rect.unit (s := S13312) o S512.size inb') (fun _ => rfl)) hsrc hdst)) Q) := by
  unfold StageMid OW
  iintro ⟨HB, #Hmw, %W', %hW, HO⟩ Hk
  iapply (Transfers.wp_waitBatchO (EC (F := F)) 𝒱₀ (thr d L) none (default : HIx 1) (N := credI)
    (dstw := idxM.slice (Rect.unit (s := S13312) o S512.size inb') (fun _ => rfl)) (D := fun t : Fin n => stageR (F := F) d L vI (raw vI L) (f0 + t.val)) (u := u * credI) rfl (by
    have h0 : 0 < credI := by decide
    calc u * credI + credI = (u + 1) * credI := (Nat.succ_mul _ _).symm
      _ < n * credI := Nat.mul_lt_mul_of_pos_right hu h0
      _ = credI * n := Nat.mul_comm _ _)) $$ [HB HO]
  · isplitl [HB]; · iexact HB
    isplitl [HO]; · iexact HO
    iapply (Transfers.MayWaits.elim (SemLoc.dma sem)) $$ Hmw
  iintro ⟨HB, HO⟩
  rw [wp_ret]; imodintro
  iapply Hk
  isplitl [HB]; · rw [Nat.succ_mul]; iexact HB
  isplitr; · iexact Hmw
  iexists _; isplitr
  swap; · iexact HO
  ipureintro; intro p hp
  rcases Finset.mem_insert.mp hp with hp | hp
  · exact .inr (hp ▸ rfl)
  · exact hW p hp

/-- Waiting for the last copy of a wave: every copy has landed. -/
theorem stage_last {sem : DmaSem sig} {f0 n u : ℕ} (hu : u + 1 = n) {O : CellTallies nD τ sig (HIx 1)} {W : Waits sig (HIx 1)}
    {sp : Space} {s : Shape} {e : EltTy} {src : Memref sig .scVector sp s e} {o : Fin 1 → ℕ} {inb'} {hsrc hdst} {Q : PUnit → sProp 𝕄} :
    iprop(StageMid d L vI sem f0 n u ∗ OW d L O W)
      ⊢ iprop((iprop((bigSep Finset.univ fun t : Fin n => stageR (F := F) d L vI (raw vI L) (f0 + t.val)) ∗ semVal (thr d L, .dma sem) 0 ∗ OW d L O W) -∗ Q ⟨⟩)
          -∗ wp frame (wpE (defs₀ (F := F)) 𝒱₀ (thr d L) none) Set.univ
            (Prog.lift (.waitDma2 sem src (idxM.slice (Rect.unit (s := S13312) o S512.size inb') (fun _ => rfl)) hsrc hdst)) Q) := by
  unfold StageMid OW
  iintro ⟨HB, #Hmw, %W', %hW, HO⟩ Hk
  iapply (Transfers.wp_waitBatchLastO (EC (F := F)) 𝒱₀ (thr d L) none (default : HIx 1) (N := credI)
    (dstw := idxM.slice (Rect.unit (s := S13312) o S512.size inb') (fun _ => rfl)) (D := fun t : Fin n => stageR (F := F) d L vI (raw vI L) (f0 + t.val)) (u := u * credI) rfl (by decide) (by
    subst hu; ring)) $$ [HB HO]
  · isplitl [HB]; · iexact HB
    isplitl [HO]; · iexact HO
    iapply (Transfers.MayWaits.elim (SemLoc.dma sem)) $$ Hmw
  iintro ⟨HB, Hs, HO⟩
  rw [wp_ret]; imodintro
  iapply Hk
  isplitl [HB]; · iexact HB
  isplitl [Hs]; · iexact Hs
  isplitr; · iexact Hmw
  iexists _; isplitr
  swap; · iexact HO
  ipureintro; intro p hp
  rcases Finset.mem_insert.mp hp with hp | hp
  · exact .inr (hp ▸ rfl)
  · exact hW p hp

end Cert.Proof

end
-- ==== Proof.Access.lean ====
/-
  The loads and stores of 16 words in the tile's buffers: what a load reads and what a store leaves, word by word.
-/
module

public import proofs.«01_k».proof.Proof.Steps

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable {d : Dev nD} {L : grid1.Coords}

/-- Lane `n` of a vector of 16 words. -/
def ix16 (n : ℕ) : S16.Idx := fun | 0 => ⟨n % 16, Nat.mod_lt _ (by decide)⟩

/-- The lane of an index of sixteen is that index. -/
theorem ix16_val (y : S16.Idx) : ix16 (y 0).val = y := by
  have hy : (y 0).val < 16 := (y 0).isLt
  funext a; apply Fin.ext; fin_cases a; exact Nat.mod_eq_of_lt hy

/-- The list's index at an index's number is that index. -/
theorem ixL_val (x : S13312.Idx) : ixL (x 0).val = x := by
  have hx : (x 0).val < 13312 := (x 0).isLt
  funext a; apply Fin.ext; fin_cases a; exact Nat.mod_eq_of_lt hx

/-- The 512-word buffer's index at an index's number is that index. -/
theorem ixB_val (x : S512.Idx) : ixB (x 0).val = x := by
  have hx : (x 0).val < 512 := (x 0).isLt
  funext a; apply Fin.ext; fin_cases a; exact Nat.mod_eq_of_lt hx

/-- The same as `ix16_val`, at a second name for uses in a step. -/
theorem ix16_self (x : S16.Idx) : ix16 (x 0).val = x := ix16_val x

/-- A load of 16 words of the index list from position `o`. -/
theorem load_idx {Sd : Finset S13312.Idx} {q : PosShare TreeShare} {g : S13312.Idx → BitVec 32} {off : Fin 1 → ℕ} (o : ℕ) (ho : off = ![o]) {inb} {hl}
    (hS : ∀ x : S13312.Idx, o ≤ (x 0).val → (x 0).val < o + 16 → x ∈ Sd) {Q : Vec F S16 .i32 → sProp 𝕄} :
    ((thr d L).loc cc1_scratch0 ↦[Sd]{q} g)
      ⊢ iprop((((thr d L).loc cc1_scratch0 ↦[Sd]{q} g) -∗ Q (fun y => g (ixL (o + (y 0).val))))
          -∗ wp frame (wpE (defs₀ (F := F)) 𝒱₀ (thr d L) none) Set.univ
            (Prog.lift (.load idxM (Rect.unit (s := S13312) off S16.size inb).toLoadRect hl)) Q) := by
  subst ho
  iintro H Hk
  have hsub : ((idxM).access (Rect.unit (s := S13312) ![o] S16.size inb)).set ⊆ Sd := by
    intro x hx
    have hx' : x ∈ ((View.whole cc1_scratch0).slice (Rect.unit (s := S13312) ![o] S16.size inb)).set := hx
    rw [View.set_slice_whole, mem_unit1 rfl] at hx'
    exact hS x hx'.1 hx'.2
  iapply (wp_load_rect 𝒱₀ (thr d L) none Set.univ (m := idxM) (r := (Rect.unit (s := S13312) ![o] S16.size inb)) hsub) $$ H
  iintro H
  rw [wp_ret]; imodintro
  have e : Q (((idxM).access (Rect.unit (s := S13312) ![o] S16.size inb)).read (Elt F) g) = Q (fun y => g (ixL (o + (y 0).val))) := by
    refine congrArg Q (funext fun y => ?_)
    have hy : (y 0).val < 16 := (y 0).isLt
    have hb : o + 16 ≤ 13312 := inb 0
    refine (View.read_apply _ _).trans ((cast_eq _ _).trans (congrArg g ?_))
    funext a; apply Fin.ext; fin_cases a
    show o + 1 * (y 0).val = (o + (y 0).val) % 13312
    rw [Nat.mod_eq_of_lt (by omega)]; omega
  rw [e]
  iapply Hk $$ H

/-- A load of 16 words of the gathered words from position `o`. -/
theorem load_val {Sd : Finset S13312.Idx} {q : PosShare TreeShare} {g : S13312.Idx → F .f32} {off : Fin 1 → ℕ} (o : ℕ) (ho : off = ![o]) {inb} {hl}
    (hS : ∀ x : S13312.Idx, o ≤ (x 0).val → (x 0).val < o + 16 → x ∈ Sd) {Q : Vec F S16 .f32 → sProp 𝕄} :
    ((thr d L).loc cc1_scratch1 ↦[Sd]{q} g)
      ⊢ iprop((((thr d L).loc cc1_scratch1 ↦[Sd]{q} g) -∗ Q (fun y => g (ixL (o + (y 0).val))))
          -∗ wp frame (wpE (defs₀ (F := F)) 𝒱₀ (thr d L) none) Set.univ
            (Prog.lift (.load valM (Rect.unit (s := S13312) off S16.size inb).toLoadRect hl)) Q) := by
  subst ho
  iintro H Hk
  have hsub : ((valM).access (Rect.unit (s := S13312) ![o] S16.size inb)).set ⊆ Sd := by
    intro x hx
    have hx' : x ∈ ((View.whole cc1_scratch1).slice (Rect.unit (s := S13312) ![o] S16.size inb)).set := hx
    rw [View.set_slice_whole, mem_unit1 rfl] at hx'
    exact hS x hx'.1 hx'.2
  iapply (wp_load_rect 𝒱₀ (thr d L) none Set.univ (m := valM) (r := (Rect.unit (s := S13312) ![o] S16.size inb)) hsub) $$ H
  iintro H
  rw [wp_ret]; imodintro
  have e : Q (((valM).access (Rect.unit (s := S13312) ![o] S16.size inb)).read (Elt F) g) = Q (fun y => g (ixL (o + (y 0).val))) := by
    refine congrArg Q (funext fun y => ?_)
    have hy : (y 0).val < 16 := (y 0).isLt
    have hb : o + 16 ≤ 13312 := inb 0
    refine (View.read_apply _ _).trans ((cast_eq _ _).trans (congrArg g ?_))
    funext a; apply Fin.ext; fin_cases a
    show o + 1 * (y 0).val = (o + (y 0).val) % 13312
    rw [Nat.mod_eq_of_lt (by omega)]; omega
  rw [e]
  iapply Hk $$ H

/-- A load of 16 words of the tail positions from position `o`. -/
theorem load_td {Sd : Finset S512.Idx} {q : PosShare TreeShare} {g : S512.Idx → BitVec 32} {off : Fin 1 → ℕ} (o : ℕ) (ho : off = ![o]) {inb} {hl}
    (hS : ∀ x : S512.Idx, o ≤ (x 0).val → (x 0).val < o + 16 → x ∈ Sd) {Q : Vec F S16 .i32 → sProp 𝕄} :
    ((thr d L).loc cc1_scratch2 ↦[Sd]{q} g)
      ⊢ iprop((((thr d L).loc cc1_scratch2 ↦[Sd]{q} g) -∗ Q (fun y => g (ixB (o + (y 0).val))))
          -∗ wp frame (wpE (defs₀ (F := F)) 𝒱₀ (thr d L) none) Set.univ
            (Prog.lift (.load tdM (Rect.unit (s := S512) off S16.size inb).toLoadRect hl)) Q) := by
  subst ho
  iintro H Hk
  have hsub : ((tdM).access (Rect.unit (s := S512) ![o] S16.size inb)).set ⊆ Sd := by
    intro x hx
    have hx' : x ∈ ((View.whole cc1_scratch2).slice (Rect.unit (s := S512) ![o] S16.size inb)).set := hx
    rw [View.set_slice_whole, mem_unit1 rfl] at hx'
    exact hS x hx'.1 hx'.2
  iapply (wp_load_rect 𝒱₀ (thr d L) none Set.univ (m := tdM) (r := (Rect.unit (s := S512) ![o] S16.size inb)) hsub) $$ H
  iintro H
  rw [wp_ret]; imodintro
  have e : Q (((tdM).access (Rect.unit (s := S512) ![o] S16.size inb)).read (Elt F) g) = Q (fun y => g (ixB (o + (y 0).val))) := by
    refine congrArg Q (funext fun y => ?_)
    have hy : (y 0).val < 16 := (y 0).isLt
    have hb : o + 16 ≤ 512 := inb 0
    refine (View.read_apply _ _).trans ((cast_eq _ _).trans (congrArg g ?_))
    funext a; apply Fin.ext; fin_cases a
    show o + 1 * (y 0).val = (o + (y 0).val) % 512
    rw [Nat.mod_eq_of_lt (by omega)]; omega
  rw [e]
  iapply Hk $$ H

/-- A load of 16 words of the running sums from position `o`. -/
theorem load_acc {Sd : Finset S512.Idx} {q : PosShare TreeShare} {g : S512.Idx → F .f32} {off : Fin 1 → ℕ} (o : ℕ) (ho : off = ![o]) {inb} {hl}
    (hS : ∀ x : S512.Idx, o ≤ (x 0).val → (x 0).val < o + 16 → x ∈ Sd) {Q : Vec F S16 .f32 → sProp 𝕄} :
    ((thr d L).loc cc1_scratch4 ↦[Sd]{q} g)
      ⊢ iprop((((thr d L).loc cc1_scratch4 ↦[Sd]{q} g) -∗ Q (fun y => g (ixB (o + (y 0).val))))
          -∗ wp frame (wpE (defs₀ (F := F)) 𝒱₀ (thr d L) none) Set.univ
            (Prog.lift (.load accM (Rect.unit (s := S512) off S16.size inb).toLoadRect hl)) Q) := by
  subst ho
  iintro H Hk
  have hsub : ((accM).access (Rect.unit (s := S512) ![o] S16.size inb)).set ⊆ Sd := by
    intro x hx
    have hx' : x ∈ ((View.whole cc1_scratch4).slice (Rect.unit (s := S512) ![o] S16.size inb)).set := hx
    rw [View.set_slice_whole, mem_unit1 rfl] at hx'
    exact hS x hx'.1 hx'.2
  iapply (wp_load_rect 𝒱₀ (thr d L) none Set.univ (m := accM) (r := (Rect.unit (s := S512) ![o] S16.size inb)) hsub) $$ H
  iintro H
  rw [wp_ret]; imodintro
  have e : Q (((accM).access (Rect.unit (s := S512) ![o] S16.size inb)).read (Elt F) g) = Q (fun y => g (ixB (o + (y 0).val))) := by
    refine congrArg Q (funext fun y => ?_)
    have hy : (y 0).val < 16 := (y 0).isLt
    have hb : o + 16 ≤ 512 := inb 0
    refine (View.read_apply _ _).trans ((cast_eq _ _).trans (congrArg g ?_))
    funext a; apply Fin.ext; fin_cases a
    show o + 1 * (y 0).val = (o + (y 0).val) % 512
    rw [Nat.mod_eq_of_lt (by omega)]; omega
  rw [e]
  iapply Hk $$ H

/-- A load of 16 words of the bias from position `o`. -/
theorem load_bi {Sd : Finset S16.Idx} {q : PosShare TreeShare} {g : S16.Idx → F .f32} {off : Fin 1 → ℕ} (o : ℕ) (ho : off = ![o]) {inb} {hl}
    (hS : ∀ x : S16.Idx, o ≤ (x 0).val → (x 0).val < o + 16 → x ∈ Sd) {Q : Vec F S16 .f32 → sProp 𝕄} :
    ((thr d L).loc cc1_scratch6 ↦[Sd]{q} g)
      ⊢ iprop((((thr d L).loc cc1_scratch6 ↦[Sd]{q} g) -∗ Q (fun y => g (ix16 (o + (y 0).val))))
          -∗ wp frame (wpE (defs₀ (F := F)) 𝒱₀ (thr d L) none) Set.univ
            (Prog.lift (.load biM (Rect.unit (s := S16) off S16.size inb).toLoadRect hl)) Q) := by
  subst ho
  iintro H Hk
  have hsub : ((biM).access (Rect.unit (s := S16) ![o] S16.size inb)).set ⊆ Sd := by
    intro x hx
    have hx' : x ∈ ((View.whole cc1_scratch6).slice (Rect.unit (s := S16) ![o] S16.size inb)).set := hx
    rw [View.set_slice_whole, mem_unit1 rfl] at hx'
    exact hS x hx'.1 hx'.2
  iapply (wp_load_rect 𝒱₀ (thr d L) none Set.univ (m := biM) (r := (Rect.unit (s := S16) ![o] S16.size inb)) hsub) $$ H
  iintro H
  rw [wp_ret]; imodintro
  have e : Q (((biM).access (Rect.unit (s := S16) ![o] S16.size inb)).read (Elt F) g) = Q (fun y => g (ix16 (o + (y 0).val))) := by
    refine congrArg Q (funext fun y => ?_)
    have hy : (y 0).val < 16 := (y 0).isLt
    have hb : o + 16 ≤ 16 := inb 0
    refine (View.read_apply _ _).trans ((cast_eq _ _).trans (congrArg g ?_))
    funext a; apply Fin.ext; fin_cases a
    show o + 1 * (y 0).val = (o + (y 0).val) % 16
    rw [Nat.mod_eq_of_lt (by omega)]; omega
  rw [e]
  iapply Hk $$ H

/-- A load of 16 words of the results from position `o`. -/
theorem load_out {Sd : Finset S512.Idx} {q : PosShare TreeShare} {g : S512.Idx → F .f32} {off : Fin 1 → ℕ} (o : ℕ) (ho : off = ![o]) {inb} {hl}
    (hS : ∀ x : S512.Idx, o ≤ (x 0).val → (x 0).val < o + 16 → x ∈ Sd) {Q : Vec F S16 .f32 → sProp 𝕄} :
    ((thr d L).loc cc1_scratch5 ↦[Sd]{q} g)
      ⊢ iprop((((thr d L).loc cc1_scratch5 ↦[Sd]{q} g) -∗ Q (fun y => g (ixB (o + (y 0).val))))
          -∗ wp frame (wpE (defs₀ (F := F)) 𝒱₀ (thr d L) none) Set.univ
            (Prog.lift (.load outM (Rect.unit (s := S512) off S16.size inb).toLoadRect hl)) Q) := by
  subst ho
  iintro H Hk
  have hsub : ((outM).access (Rect.unit (s := S512) ![o] S16.size inb)).set ⊆ Sd := by
    intro x hx
    have hx' : x ∈ ((View.whole cc1_scratch5).slice (Rect.unit (s := S512) ![o] S16.size inb)).set := hx
    rw [View.set_slice_whole, mem_unit1 rfl] at hx'
    exact hS x hx'.1 hx'.2
  iapply (wp_load_rect 𝒱₀ (thr d L) none Set.univ (m := outM) (r := (Rect.unit (s := S512) ![o] S16.size inb)) hsub) $$ H
  iintro H
  rw [wp_ret]; imodintro
  have e : Q (((outM).access (Rect.unit (s := S512) ![o] S16.size inb)).read (Elt F) g) = Q (fun y => g (ixB (o + (y 0).val))) := by
    refine congrArg Q (funext fun y => ?_)
    have hy : (y 0).val < 16 := (y 0).isLt
    have hb : o + 16 ≤ 512 := inb 0
    refine (View.read_apply _ _).trans ((cast_eq _ _).trans (congrArg g ?_))
    funext a; apply Fin.ext; fin_cases a
    show o + 1 * (y 0).val = (o + (y 0).val) % 512
    rw [Nat.mod_eq_of_lt (by omega)]; omega
  rw [e]
  iapply Hk $$ H

/-- A store of 16 words to the index list at position `o`. -/
theorem store_idx {Sd : Finset S13312.Idx} {g g' : S13312.Idx → BitVec 32} {off : Fin 1 → ℕ} (o : ℕ) (ho : off = ![o]) {inb} {w : Vec F S16 .i32} {hx hm}
    (hS : ∀ x : S13312.Idx, o ≤ (x 0).val → (x 0).val < o + 16 → x ∈ Sd)
    (hin : ∀ x : S13312.Idx, o ≤ (x 0).val → (x 0).val < o + 16 → g' x = w (ix16 ((x 0).val - o)))
    (hout : ∀ x : S13312.Idx, x ∈ Sd → ¬(o ≤ (x 0).val ∧ (x 0).val < o + 16) → g' x = g x) {Q : PUnit → sProp 𝕄} :
    ((thr d L).loc cc1_scratch0 ↦[Sd]{fullShare} g)
      ⊢ iprop((((thr d L).loc cc1_scratch0 ↦[Sd]{fullShare} g') -∗ Q ⟨⟩)
          -∗ wp frame (wpE (defs₀ (F := F)) 𝒱₀ (thr d L) none) Set.univ
            (Prog.lift (.store idxM (Rect.unit (s := S13312) off S16.size inb) w Finset.univ hx hm)) Q) := by
  subst ho
  iintro H Hk
  have hmem : ∀ x : S13312.Idx, x ∈ ((idxM).access (Rect.unit (s := S13312) ![o] S16.size inb)).set ↔ o ≤ (x 0).val ∧ (x 0).val < o + 16 := by
    intro x
    show x ∈ ((View.whole cc1_scratch0).slice (Rect.unit (s := S13312) ![o] S16.size inb)).set ↔ _
    rw [View.set_slice_whole, mem_unit1 rfl]; rfl
  have hsub : ((idxM).access (Rect.unit (s := S13312) ![o] S16.size inb)).setOn Finset.univ ⊆ Sd := by
    intro x hx'
    have h1 := (hmem x).1 hx'
    exact hS x h1.1 h1.2
  iapply (wp_store 𝒱₀ (thr d L) none Set.univ (m := idxM) (r := Rect.unit (s := S13312) ![o] S16.size inb) (w := w) (Mk := Finset.univ) hsub) $$ H
  iintro H
  rw [wp_ret]; imodintro
  ihave H' := (Entails.of_eq (pointsTo_congr (g := g') ?he)) $$ H
  case he =>
    intro x hxS
    by_cases hx1 : o ≤ (x 0).val ∧ (x 0).val < o + 16
    · rw [hin x hx1.1 hx1.2]
      have hm' : x = ((idxM).access (Rect.unit (s := S13312) ![o] S16.size inb)).emb (ix16 ((x 0).val - o)) := by
        funext a; apply Fin.ext; fin_cases a
        show (x 0).val = o + 1 * (((x 0).val - o) % 16)
        rw [Nat.mod_eq_of_lt (by omega)]; omega
      conv_lhs => rw [hm']
      exact (View.write_emb_of_mem _ _ (Finset.mem_univ _)).trans (cast_eq _ _)
    · rw [hout x hxS hx1]
      refine View.write_of_not_mem _ _ _ ?_
      intro h; exact hx1 ((hmem x).1 h)
  iapply Hk $$ H'

/-- A store of 16 words to the tail positions at position `o`. -/
theorem store_td {Sd : Finset S512.Idx} {g g' : S512.Idx → BitVec 32} {off : Fin 1 → ℕ} (o : ℕ) (ho : off = ![o]) {inb} {w : Vec F S16 .i32} {hx hm}
    (hS : ∀ x : S512.Idx, o ≤ (x 0).val → (x 0).val < o + 16 → x ∈ Sd)
    (hin : ∀ x : S512.Idx, o ≤ (x 0).val → (x 0).val < o + 16 → g' x = w (ix16 ((x 0).val - o)))
    (hout : ∀ x : S512.Idx, x ∈ Sd → ¬(o ≤ (x 0).val ∧ (x 0).val < o + 16) → g' x = g x) {Q : PUnit → sProp 𝕄} :
    ((thr d L).loc cc1_scratch2 ↦[Sd]{fullShare} g)
      ⊢ iprop((((thr d L).loc cc1_scratch2 ↦[Sd]{fullShare} g') -∗ Q ⟨⟩)
          -∗ wp frame (wpE (defs₀ (F := F)) 𝒱₀ (thr d L) none) Set.univ
            (Prog.lift (.store tdM (Rect.unit (s := S512) off S16.size inb) w Finset.univ hx hm)) Q) := by
  subst ho
  iintro H Hk
  have hmem : ∀ x : S512.Idx, x ∈ ((tdM).access (Rect.unit (s := S512) ![o] S16.size inb)).set ↔ o ≤ (x 0).val ∧ (x 0).val < o + 16 := by
    intro x
    show x ∈ ((View.whole cc1_scratch2).slice (Rect.unit (s := S512) ![o] S16.size inb)).set ↔ _
    rw [View.set_slice_whole, mem_unit1 rfl]; rfl
  have hsub : ((tdM).access (Rect.unit (s := S512) ![o] S16.size inb)).setOn Finset.univ ⊆ Sd := by
    intro x hx'
    have h1 := (hmem x).1 hx'
    exact hS x h1.1 h1.2
  iapply (wp_store 𝒱₀ (thr d L) none Set.univ (m := tdM) (r := Rect.unit (s := S512) ![o] S16.size inb) (w := w) (Mk := Finset.univ) hsub) $$ H
  iintro H
  rw [wp_ret]; imodintro
  ihave H' := (Entails.of_eq (pointsTo_congr (g := g') ?he)) $$ H
  case he =>
    intro x hxS
    by_cases hx1 : o ≤ (x 0).val ∧ (x 0).val < o + 16
    · rw [hin x hx1.1 hx1.2]
      have hm' : x = ((tdM).access (Rect.unit (s := S512) ![o] S16.size inb)).emb (ix16 ((x 0).val - o)) := by
        funext a; apply Fin.ext; fin_cases a
        show (x 0).val = o + 1 * (((x 0).val - o) % 16)
        rw [Nat.mod_eq_of_lt (by omega)]; omega
      conv_lhs => rw [hm']
      exact (View.write_emb_of_mem _ _ (Finset.mem_univ _)).trans (cast_eq _ _)
    · rw [hout x hxS hx1]
      refine View.write_of_not_mem _ _ _ ?_
      intro h; exact hx1 ((hmem x).1 h)
  iapply Hk $$ H'

/-- A store of 16 words to the running sums at position `o`. -/
theorem store_acc {Sd : Finset S512.Idx} {g g' : S512.Idx → F .f32} {off : Fin 1 → ℕ} (o : ℕ) (ho : off = ![o]) {inb} {w : Vec F S16 .f32} {hx hm}
    (hS : ∀ x : S512.Idx, o ≤ (x 0).val → (x 0).val < o + 16 → x ∈ Sd)
    (hin : ∀ x : S512.Idx, o ≤ (x 0).val → (x 0).val < o + 16 → g' x = w (ix16 ((x 0).val - o)))
    (hout : ∀ x : S512.Idx, x ∈ Sd → ¬(o ≤ (x 0).val ∧ (x 0).val < o + 16) → g' x = g x) {Q : PUnit → sProp 𝕄} :
    ((thr d L).loc cc1_scratch4 ↦[Sd]{fullShare} g)
      ⊢ iprop((((thr d L).loc cc1_scratch4 ↦[Sd]{fullShare} g') -∗ Q ⟨⟩)
          -∗ wp frame (wpE (defs₀ (F := F)) 𝒱₀ (thr d L) none) Set.univ
            (Prog.lift (.store accM (Rect.unit (s := S512) off S16.size inb) w Finset.univ hx hm)) Q) := by
  subst ho
  iintro H Hk
  have hmem : ∀ x : S512.Idx, x ∈ ((accM).access (Rect.unit (s := S512) ![o] S16.size inb)).set ↔ o ≤ (x 0).val ∧ (x 0).val < o + 16 := by
    intro x
    show x ∈ ((View.whole cc1_scratch4).slice (Rect.unit (s := S512) ![o] S16.size inb)).set ↔ _
    rw [View.set_slice_whole, mem_unit1 rfl]; rfl
  have hsub : ((accM).access (Rect.unit (s := S512) ![o] S16.size inb)).setOn Finset.univ ⊆ Sd := by
    intro x hx'
    have h1 := (hmem x).1 hx'
    exact hS x h1.1 h1.2
  iapply (wp_store 𝒱₀ (thr d L) none Set.univ (m := accM) (r := Rect.unit (s := S512) ![o] S16.size inb) (w := w) (Mk := Finset.univ) hsub) $$ H
  iintro H
  rw [wp_ret]; imodintro
  ihave H' := (Entails.of_eq (pointsTo_congr (g := g') ?he)) $$ H
  case he =>
    intro x hxS
    by_cases hx1 : o ≤ (x 0).val ∧ (x 0).val < o + 16
    · rw [hin x hx1.1 hx1.2]
      have hm' : x = ((accM).access (Rect.unit (s := S512) ![o] S16.size inb)).emb (ix16 ((x 0).val - o)) := by
        funext a; apply Fin.ext; fin_cases a
        show (x 0).val = o + 1 * (((x 0).val - o) % 16)
        rw [Nat.mod_eq_of_lt (by omega)]; omega
      conv_lhs => rw [hm']
      exact (View.write_emb_of_mem _ _ (Finset.mem_univ _)).trans (cast_eq _ _)
    · rw [hout x hxS hx1]
      refine View.write_of_not_mem _ _ _ ?_
      intro h; exact hx1 ((hmem x).1 h)
  iapply Hk $$ H'

/-- A store of 16 words to the results at position `o`. -/
theorem store_out {Sd : Finset S512.Idx} {g g' : S512.Idx → F .f32} {off : Fin 1 → ℕ} (o : ℕ) (ho : off = ![o]) {inb} {w : Vec F S16 .f32} {hx hm}
    (hS : ∀ x : S512.Idx, o ≤ (x 0).val → (x 0).val < o + 16 → x ∈ Sd)
    (hin : ∀ x : S512.Idx, o ≤ (x 0).val → (x 0).val < o + 16 → g' x = w (ix16 ((x 0).val - o)))
    (hout : ∀ x : S512.Idx, x ∈ Sd → ¬(o ≤ (x 0).val ∧ (x 0).val < o + 16) → g' x = g x) {Q : PUnit → sProp 𝕄} :
    ((thr d L).loc cc1_scratch5 ↦[Sd]{fullShare} g)
      ⊢ iprop((((thr d L).loc cc1_scratch5 ↦[Sd]{fullShare} g') -∗ Q ⟨⟩)
          -∗ wp frame (wpE (defs₀ (F := F)) 𝒱₀ (thr d L) none) Set.univ
            (Prog.lift (.store outM (Rect.unit (s := S512) off S16.size inb) w Finset.univ hx hm)) Q) := by
  subst ho
  iintro H Hk
  have hmem : ∀ x : S512.Idx, x ∈ ((outM).access (Rect.unit (s := S512) ![o] S16.size inb)).set ↔ o ≤ (x 0).val ∧ (x 0).val < o + 16 := by
    intro x
    show x ∈ ((View.whole cc1_scratch5).slice (Rect.unit (s := S512) ![o] S16.size inb)).set ↔ _
    rw [View.set_slice_whole, mem_unit1 rfl]; rfl
  have hsub : ((outM).access (Rect.unit (s := S512) ![o] S16.size inb)).setOn Finset.univ ⊆ Sd := by
    intro x hx'
    have h1 := (hmem x).1 hx'
    exact hS x h1.1 h1.2
  iapply (wp_store 𝒱₀ (thr d L) none Set.univ (m := outM) (r := Rect.unit (s := S512) ![o] S16.size inb) (w := w) (Mk := Finset.univ) hsub) $$ H
  iintro H
  rw [wp_ret]; imodintro
  ihave H' := (Entails.of_eq (pointsTo_congr (g := g') ?he)) $$ H
  case he =>
    intro x hxS
    by_cases hx1 : o ≤ (x 0).val ∧ (x 0).val < o + 16
    · rw [hin x hx1.1 hx1.2]
      have hm' : x = ((outM).access (Rect.unit (s := S512) ![o] S16.size inb)).emb (ix16 ((x 0).val - o)) := by
        funext a; apply Fin.ext; fin_cases a
        show (x 0).val = o + 1 * (((x 0).val - o) % 16)
        rw [Nat.mod_eq_of_lt (by omega)]; omega
      conv_lhs => rw [hm']
      exact (View.write_emb_of_mem _ _ (Finset.mem_univ _)).trans (cast_eq _ _)
    · rw [hout x hxS hx1]
      refine View.write_of_not_mem _ _ _ ?_
      intro h; exact hx1 ((hmem x).1 h)
  iapply Hk $$ H'

end Cert.Proof

end
-- ==== Proof.Waves.lean ====
/-
  A wave of staging copies from the list's pieces to a wave landed, and how the stretches of the list are cut.
-/
module

public import proofs.«01_k».proof.Proof.Steps

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable {d : Dev nD} {L : grid1.Coords} {vI : S26x16384.Idx → BitVec 32}

/-! ## Stretches of the list and of the index array -/

/-- Fields `a` up to `b` of the tile's rows in the transposed index array. -/
def winS (L : grid1.Coords) (a b : ℕ) : Finset S26x16384.Idx :=
  Finset.univ.filter fun x => a ≤ (x 0).val ∧ (x 0).val < b ∧ rb L ≤ (x 1).val ∧ (x 1).val < rb L + 512

/-- Membership in several fields of the tile's rows. -/
theorem mem_winS {a b : ℕ} {x : S26x16384.Idx} :
    x ∈ winS L a b ↔ a ≤ (x 0).val ∧ (x 0).val < b ∧ rb L ≤ (x 1).val ∧ (x 1).val < rb L + 512 := by simp [winS]

/-- A points-to over a set is one over a part and one over the rest. -/
theorem pts_cut {ℓ : Loc nD τ sig} {S A B : Finset (Idx ℓ)} (hA : ∀ x, x ∈ A → x ∈ S) (hB : ∀ x, x ∈ B ↔ x ∈ S ∧ x ∉ A)
    (q : PosShare TreeShare) (f : Buf (Elt F) ℓ) :
    (ℓ ↦[S]{q} f : sProp 𝕄) = iprop((ℓ ↦[A]{q} f) ∗ (ℓ ↦[B]{q} f)) := by
  have e : B = S \ A := by ext x; rw [hB, Finset.mem_sdiff]
  subst e
  exact BI.Entails.antisymm (pointsTo_split_subset (q := q) (f := f) (S := S) (I := A) hA).1 (pointsTo_split_subset (q := q) (f := f) (S := S) (I := A) hA).2

/-- A shorter stretch lies in a longer one. -/
theorem seg_sub {a b c : ℕ} (h2 : b ≤ c) (x : S13312.Idx) (hx : x ∈ seg a b) : x ∈ seg a c := by
  rw [mem_seg] at *; omega
/-- A stretch's second part is what its first part leaves. -/
theorem seg_diff {a b c : ℕ} (h1 : a ≤ b) (h2 : b ≤ c) (x : S13312.Idx) : x ∈ seg b c ↔ x ∈ seg a c ∧ x ∉ seg a b := by
  simp only [mem_seg]; omega
/-- Fewer fields lie in more fields. -/
theorem winS_sub {a b c : ℕ} (h2 : b ≤ c) (x : S26x16384.Idx) (hx : x ∈ winS L a b) : x ∈ winS L a c := by
  rw [mem_winS] at *; omega
/-- The later fields are what the earlier ones leave. -/
theorem winS_diff {a b c : ℕ} (h1 : a ≤ b) (h2 : b ≤ c) (x : S26x16384.Idx) : x ∈ winS L b c ↔ x ∈ winS L a c ∧ x ∉ winS L a b := by
  simp only [mem_winS]; omega

/-- A stretch of the index list, held, splits in two. -/
theorem idx_cut {a b c : ℕ} (h1 : a ≤ b) (h2 : b ≤ c) (q : PosShare TreeShare) (g : S13312.Idx → BitVec 32) :
    ((thr d L).loc cc1_scratch0 ↦[seg a c]{q} g : sProp 𝕄)
      = iprop(((thr d L).loc cc1_scratch0 ↦[seg a b]{q} g) ∗ ((thr d L).loc cc1_scratch0 ↦[seg b c]{q} g)) :=
  pts_cut (ℓ := (thr d L).loc cc1_scratch0) (S := seg a c) (A := seg a b) (B := seg b c) (seg_sub h2) (seg_diff h1 h2) q g

/-- A stretch of the value buffer, held, splits in two. -/
theorem val_cut {a b c : ℕ} (h1 : a ≤ b) (h2 : b ≤ c) (q : PosShare TreeShare) (g : S13312.Idx → F .f32) :
    ((thr d L).loc cc1_scratch1 ↦[seg a c]{q} g : sProp 𝕄)
      = iprop(((thr d L).loc cc1_scratch1 ↦[seg a b]{q} g) ∗ ((thr d L).loc cc1_scratch1 ↦[seg b c]{q} g)) :=
  pts_cut (ℓ := (thr d L).loc cc1_scratch1) (S := seg a c) (A := seg a b) (B := seg b c) (seg_sub h2) (seg_diff h1 h2) q g

/-- Several fields of the index array, held, split in two. -/
theorem win_cut {a b c : ℕ} (h1 : a ≤ b) (h2 : b ≤ c) (q : PosShare TreeShare) (g : S26x16384.Idx → BitVec 32) :
    ((thr d L).loc main_v5_scv ↦[winS L a c]{q} g : sProp 𝕄)
      = iprop(((thr d L).loc main_v5_scv ↦[winS L a b]{q} g) ∗ ((thr d L).loc main_v5_scv ↦[winS L b c]{q} g)) :=
  pts_cut (ℓ := (thr d L).loc main_v5_scv) (S := winS L a c) (A := winS L a b) (B := winS L b c) (winS_sub h2) (winS_diff h1 h2) q g

/-- The whole list as a stretch. -/
theorem seg_all : seg 0 13312 = Finset.univ := by
  ext x; have : (x 0).val < 13312 := (x 0).isLt
  simp only [mem_seg, Finset.mem_univ, iff_true]; omega

/-- The blocks of a wave's fields are a stretch of the list and a stretch of the index array. -/
theorem wave_eq (f0 n : ℕ) (g : S13312.Idx → BitVec 32) :
    (bigSep Finset.univ fun t : Fin n => stageR (F := F) d L vI g (f0 + t.val))
      = iprop(((thr d L).loc cc1_scratch0 ↦[seg (512 * f0) (512 * (f0 + n))]{fullShare} g)
          ∗ ((thr d L).loc main_v5_scv ↦[winS L f0 (f0 + n)]{fullShare} vI)) := by
  unfold stageR
  rw [bigSep_sep']
  congr 1
  · rw [← pointsTo_biUnion Finset.univ (ℓ := (thr d L).loc cc1_scratch0) (fun t : Fin n => seg (512 * (f0 + t.val)) (512 * (f0 + t.val) + 512))]
    · congr 1
      ext (x : S13312.Idx)
      simp only [Finset.mem_biUnion, Finset.mem_univ, true_and]
      constructor
      · rintro ⟨t, ht⟩
        rw [mem_seg] at *
        have := t.isLt; omega
      · intro h
        rw [mem_seg] at h
        refine ⟨⟨(x 0).val / 512 - f0, by omega⟩, mem_seg.mpr ?_⟩
        show 512 * (f0 + ((x 0).val / 512 - f0)) ≤ _ ∧ _ < 512 * (f0 + ((x 0).val / 512 - f0)) + 512
        omega
    · intro i _ j _ hij
      refine Finset.disjoint_left.mpr fun (x : S13312.Idx) hx hx' => hij (Fin.ext ?_)
      rw [mem_seg] at hx hx'
      omega
  · rw [← pointsTo_biUnion Finset.univ (ℓ := (thr d L).loc main_v5_scv) (fun t : Fin n => win L (f0 + t.val))]
    · congr 1
      ext (x : S26x16384.Idx)
      simp only [Finset.mem_biUnion, Finset.mem_univ, true_and]
      constructor
      · rintro ⟨t, ht⟩
        rw [mem_win] at ht; rw [mem_winS]
        have := t.isLt; omega
      · intro h
        rw [mem_winS] at h
        refine ⟨⟨(x 0).val - f0, by omega⟩, mem_win.mpr ?_⟩
        show _ = f0 + ((x 0).val - f0) ∧ _
        omega
    · intro i _ j _ hij
      refine Finset.disjoint_left.mpr fun (x : S26x16384.Idx) hx hx' => hij (Fin.ext ?_)
      rw [mem_win] at hx hx'
      omega

/-- A wave before its first copy. -/
theorem wave_start (sem : DmaSem sig) (f0 n : ℕ) (g : S13312.Idx → BitVec 32) :
    iprop(((thr d L).loc cc1_scratch0 ↦[seg (512 * f0) (512 * (f0 + n))]{fullShare} g)
        ∗ ((thr d L).loc main_v5_scv ↦[winS L f0 (f0 + n)]{fullShare} vI) ∗ semVal (thr d L, .dma sem) 0)
      ⊢ (|={Set.univ}=> StageIn (F := F) d L vI sem f0 n 0 g : sProp 𝕄) := by
  iintro ⟨Ha, Hb, Hs⟩
  imod (Transfers.batch_alloc' (EC (F := F)) (thr d L) (default : HIx 1) credI (fun t : Fin n => stageR (F := F) d L vI (raw vI L) (f0 + t.val))
    (sm := .dma sem) (E := Set.univ)) $$ Hs with HB
  imodintro
  unfold StageIn
  rw [Transfers.pending_zero, wave_eq]
  isplitl [Ha Hb]
  · isplitl [Ha] <;> iassumption
  · iexact HB

/-- A wave with every copy issued. -/
theorem wave_mid (sem : DmaSem sig) (f0 n : ℕ) (g : S13312.Idx → BitVec 32) :
    StageIn (F := F) d L vI sem f0 n n g ⊢ StageMid (F := F) d L vI sem f0 n 0 := by
  unfold StageIn StageMid
  iintro ⟨-, HB⟩
  rw [Nat.zero_mul]
  iexact HB

/-! ## Gathers -/

/-- A transfer in flight delivers what its delivery entails. -/
theorem flight_mono {c : Thread nD τ} {sm : SemLoc sig} {N : ℕ} {A B : sProp 𝕄} (h : A ⊢ B) :
    Transfers.Flight (EC (F := F)) c sm (default : HIx 1) N A ⊢ Transfers.Flight (EC (F := F)) c sm (default : HIx 1) N B := by
  unfold Transfers.Flight
  iintro ⟨⟨%R, HR, %h1, %h2⟩, Hc⟩
  isplitr [Hc]
  · iexists R
    isplitl [HR]; · iexact HR
    isplitr
    · ipureintro
      intro Kk
      refine BI.Entails.trans (show (iprop(R ∗ (iprop(semVal (c, sm) 0 ∗ B) -∗ Kk ⟨⟩)) : sProp 𝕄) ⊢ iprop(R ∗ (iprop(semVal (c, sm) 0 ∗ A) -∗ Kk ⟨⟩)) from ?_) (h1 Kk)
      iintro ⟨HR, HK⟩
      isplitl [HR]; · iexact HR
      iintro ⟨Hs, HA⟩
      iapply HK
      isplitl [Hs]; · iexact Hs
      iapply h; iexact HA
    · ipureintro; exact h2
  · iexact Hc

end Cert.Proof

end
-- ==== Proof.IndexLoops.lean ====
/-
  The first five loops: the staged indices become positions in the flat table, sixteen at a time.
-/
module

public import proofs.«01_k».proof.Proof.Words
public import proofs.«01_k».proof.Proof.Access
public import proofs.«01_k».proof.Proof.Waves

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable {d : Dev nD} {L : grid1.Coords} {vI : S26x16384.Idx → BitVec 32}

/-! ## The list partly turned into positions -/

/-- The list with the words below `lim` turned into positions and the rest as staged. -/
def mix (vI : S26x16384.Idx → BitVec 32) (L : grid1.Coords) (lim : ℕ) : S13312.Idx → BitVec 32 :=
  fun x => if (x 0).val < lim then adj vI L x else raw vI L x

/-- Before the loop a stretch of the list is as staged. -/
theorem mix_start {lo hi : ℕ} {x : S13312.Idx} (hx : x ∈ seg lo hi) : raw vI L x = mix vI L lo x := by
  have := mem_seg.1 hx; unfold mix; rw [if_neg (by omega)]

/-- After the loop a stretch of the list holds positions. -/
theorem mix_end {lo hi : ℕ} {x : S13312.Idx} (hx : x ∈ seg lo hi) : mix vI L hi x = adj vI L x := by
  have := mem_seg.1 hx; unfold mix; rw [if_pos (by omega)]

/-- A block of sixteen changes no word outside it. -/
theorem mix_out {o : ℕ} {x : S13312.Idx} (h : ¬(o ≤ (x 0).val ∧ (x 0).val < o + 16)) : mix vI L (o + 16) x = mix vI L o x := by
  unfold mix
  by_cases h1 : (x 0).val < o
  · rw [if_pos (by omega), if_pos h1]
  · rw [if_neg (by omega), if_neg h1]

/-- A word of a block of the list is its lane's. -/
theorem ixL_lane {o : ℕ} {x : S13312.Idx} (h1 : o ≤ (x 0).val) (h2 : (x 0).val < o + 16) : ixL (o + ((ix16 ((x 0).val - o)) 0).val) = x := by
  have : o + ((ix16 ((x 0).val - o)) 0).val = (x 0).val := by
    show o + ((x 0).val - o) % 16 = _; omega
  rw [this, ixL_val]

/-- A word of a block of a 512-word buffer is its lane's. -/
theorem ixB_lane {o : ℕ} {x : S512.Idx} (h1 : o ≤ (x 0).val) (h2 : (x 0).val < o + 16) : ixB (o + ((ix16 ((x 0).val - o)) 0).val) = x := by
  have : o + ((ix16 ((x 0).val - o)) 0).val = (x 0).val := by
    show o + ((x 0).val - o) % 16 = _; omega
  rw [this, ixB_val]

/-- A lane of a block not yet adjusted holds the staged index. -/
theorem mix_lane {o : ℕ} {x : S13312.Idx} (h1 : o ≤ (x 0).val) (h2 : (x 0).val < o + 16) :
    mix vI L o (ixL (o + ((ix16 ((x 0).val - o)) 0).val)) = rawN vI L (x 0).val := by
  rw [ixL_lane h1 h2]; unfold mix; rw [if_neg (by omega)]; rfl

/-- After a block is adjusted its words are clamped positions. -/
theorem mix_in {o : ℕ} {x : S13312.Idx} (h2 : (x 0).val < o + 16) :
    mix vI L (o + 16) x = BitVec.ofNat 32 (posN (rawN vI L (x 0).val) ((x 0).val / 512)) := by
  unfold mix; rw [if_pos h2]; rfl

/-- The staged list's words are indices of the index array. -/
theorem raw_lt (hI : ∀ j, (vI j).toNat < 100000) (L : grid1.Coords) (n : ℕ) : (rawN vI L n).toNat < 100000 := hI _

/-! ## Loops 1 to 4: positions of one wave's fields -/

/-- One trip of loop 1: sixteen more words of the list become positions. -/
theorem trip1 (hI : ∀ j, (vI j).toNat < 100000) (k : Fin k1_t1_loop.trips) (u : Unit) :
    ((thr d L).loc cc1_scratch0 ↦[seg 0 3584]{fullShare} (mix vI L (16 * k.val)))
      ⊢ wp (M := 𝕄) frame (wpE (defs₀ (F := F)) 𝒱₀ (thr d L) none) Set.univ
          (k1_t1_body (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 k1_pay3 k u)
          fun _ => iprop((thr d L).loc cc1_scratch0 ↦[seg 0 3584]{fullShare} (mix vI L (16 * k.val + 16))) := by
  have hk : k.val < 224 := k.isLt
  have hS : ∀ x : S13312.Idx, 16 * k.val ≤ (x 0).val → (x 0).val < 16 * k.val + 16 → x ∈ seg 0 3584 := by
    intro x h1 h2; rw [mem_seg]; omega
  iintro H
  unfold k1_t1_body
  simp only [wp_bind]
  iapply (load_idx (d := d) (L := L) (16 * k.val) (off27_eq k) hS) $$ H; iintro H
  iapply (load_idx (d := d) (L := L) (16 * k.val) (off27_eq k) hS) $$ H; iintro H
  iapply (store_idx (d := d) (L := L) (g' := mix vI L (16 * k.val + 16)) (16 * k.val) (off27_eq k) hS ?hin ?hout) $$ H
  case hin =>
    intro x h1 h2
    rw [mix_in h2, pay4_apply k _ _ (by rw [mix_lane h1 h2]; exact raw_lt hI _ _), mix_lane h1 h2]
    congr 2; omega
  case hout => intro x _ h; exact mix_out h
  iintro H
  rw [wp_pure]; imodintro; iexact H

/-- Loop 1. -/
theorem loop1 (hI : ∀ j, (vI j).toNat < 100000) {Q : Unit → sProp 𝕄} :
    ((thr d L).loc cc1_scratch0 ↦[seg 0 3584]{fullShare} (mix vI L 0))
      ⊢ iprop((((thr d L).loc cc1_scratch0 ↦[seg 0 3584]{fullShare} (mix vI L 3584)) -∗ Q ⟨⟩)
          -∗ wp frame (wpE (defs₀ (F := F)) 𝒱₀ (thr d L) none) Set.univ
            (Scf.Loop.for k1_t1_loop k1_t1_ok ⟨⟩ (k1_t1_body (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 k1_pay3)) Q) := by
  iintro H Hk
  iapply (Scf.wp_for frame (wpE (defs₀ (F := F)) 𝒱₀ (thr d L) none) Set.univ _ _ _ k1_t1_ok ⟨⟩ _
    (fun k _ => iprop((thr d L).loc cc1_scratch0 ↦[seg 0 3584]{fullShare} (mix vI L (16 * k)))) (fun k acc => ?hb))
  case hb =>
    refine (trip1 (d := d) hI k acc).trans (wp_mono _ _ _ ?_)
    intro _
    rw [show 16 * k.val + 16 = 16 * (k.val + 1) by omega]
  isplitl [H]
  · iexact H
  iintro %acc H
  iapply Hk
  iexact H

/-- One trip of loop 2: sixteen more words of the list become positions. -/
theorem trip2 (hI : ∀ j, (vI j).toNat < 100000) (k : Fin k1_t2_loop.trips) (u : Unit) :
    ((thr d L).loc cc1_scratch0 ↦[seg 3584 6656]{fullShare} (mix vI L (3584 + 16 * k.val)))
      ⊢ wp (M := 𝕄) frame (wpE (defs₀ (F := F)) 𝒱₀ (thr d L) none) Set.univ
          (k1_t2_body (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 k1_pay3 0#32 192#32 k u)
          fun _ => iprop((thr d L).loc cc1_scratch0 ↦[seg 3584 6656]{fullShare} (mix vI L (3584 + 16 * k.val + 16))) := by
  have hk : k.val < 192 := k.isLt
  have hS : ∀ x : S13312.Idx, 3584 + 16 * k.val ≤ (x 0).val → (x 0).val < 3584 + 16 * k.val + 16 → x ∈ seg 3584 6656 := by
    intro x h1 h2; rw [mem_seg]; omega
  iintro H
  unfold k1_t2_body
  simp only [wp_bind]
  iapply (load_idx (d := d) (L := L) (3584 + 16 * k.val) (off28_eq k) hS) $$ H; iintro H
  iapply (load_idx (d := d) (L := L) (3584 + 16 * k.val) (off28_eq k) hS) $$ H; iintro H
  iapply (store_idx (d := d) (L := L) (g' := mix vI L (3584 + 16 * k.val + 16)) (3584 + 16 * k.val) (off28_eq k) hS ?hin ?hout) $$ H
  case hin =>
    intro x h1 h2
    rw [mix_in h2, pay5_apply k _ _ (by rw [mix_lane h1 h2]; exact raw_lt hI _ _), mix_lane h1 h2]
    congr 2; omega
  case hout => intro x _ h; exact mix_out h
  iintro H
  rw [wp_pure]; imodintro; iexact H

/-- Loop 2. -/
theorem loop2 (hI : ∀ j, (vI j).toNat < 100000) {Q : Unit → sProp 𝕄} :
    ((thr d L).loc cc1_scratch0 ↦[seg 3584 6656]{fullShare} (mix vI L 3584))
      ⊢ iprop((((thr d L).loc cc1_scratch0 ↦[seg 3584 6656]{fullShare} (mix vI L 6656)) -∗ Q ⟨⟩)
          -∗ wp frame (wpE (defs₀ (F := F)) 𝒱₀ (thr d L) none) Set.univ
            (Scf.Loop.for k1_t2_loop k1_t2_ok ⟨⟩ (k1_t2_body (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 k1_pay3 0#32 192#32)) Q) := by
  iintro H Hk
  iapply (Scf.wp_for frame (wpE (defs₀ (F := F)) 𝒱₀ (thr d L) none) Set.univ _ _ _ k1_t2_ok ⟨⟩ _
    (fun k _ => iprop((thr d L).loc cc1_scratch0 ↦[seg 3584 6656]{fullShare} (mix vI L (3584 + 16 * k)))) (fun k acc => ?hb))
  case hb =>
    refine (trip2 (d := d) hI k acc).trans (wp_mono _ _ _ ?_)
    intro _
    rw [show 3584 + 16 * k.val + 16 = 3584 + 16 * (k.val + 1) by omega]
  isplitl [H]
  · iexact H
  iintro %acc H
  iapply Hk
  iexact H

/-- One trip of loop 3: sixteen more words of the list become positions. -/
theorem trip3 (hI : ∀ j, (vI j).toNat < 100000) (k : Fin k1_t3_loop.trips) (u : Unit) :
    ((thr d L).loc cc1_scratch0 ↦[seg 6656 10240]{fullShare} (mix vI L (6656 + 16 * k.val)))
      ⊢ wp (M := 𝕄) frame (wpE (defs₀ (F := F)) 𝒱₀ (thr d L) none) Set.univ
          (k1_t3_body (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 k1_pay3 k u)
          fun _ => iprop((thr d L).loc cc1_scratch0 ↦[seg 6656 10240]{fullShare} (mix vI L (6656 + 16 * k.val + 16))) := by
  have hk : k.val < 224 := k.isLt
  have hS : ∀ x : S13312.Idx, 6656 + 16 * k.val ≤ (x 0).val → (x 0).val < 6656 + 16 * k.val + 16 → x ∈ seg 6656 10240 := by
    intro x h1 h2; rw [mem_seg]; omega
  iintro H
  unfold k1_t3_body
  simp only [wp_bind]
  iapply (load_idx (d := d) (L := L) (6656 + 16 * k.val) (off29_eq k) hS) $$ H; iintro H
  iapply (load_idx (d := d) (L := L) (6656 + 16 * k.val) (off29_eq k) hS) $$ H; iintro H
  iapply (store_idx (d := d) (L := L) (g' := mix vI L (6656 + 16 * k.val + 16)) (6656 + 16 * k.val) (off29_eq k) hS ?hin ?hout) $$ H
  case hin =>
    intro x h1 h2
    rw [mix_in h2, pay6_apply k _ _ (by rw [mix_lane h1 h2]; exact raw_lt hI _ _), mix_lane h1 h2]
    congr 2; omega
  case hout => intro x _ h; exact mix_out h
  iintro H
  rw [wp_pure]; imodintro; iexact H

/-- Loop 3. -/
theorem loop3 (hI : ∀ j, (vI j).toNat < 100000) {Q : Unit → sProp 𝕄} :
    ((thr d L).loc cc1_scratch0 ↦[seg 6656 10240]{fullShare} (mix vI L 6656))
      ⊢ iprop((((thr d L).loc cc1_scratch0 ↦[seg 6656 10240]{fullShare} (mix vI L 10240)) -∗ Q ⟨⟩)
          -∗ wp frame (wpE (defs₀ (F := F)) 𝒱₀ (thr d L) none) Set.univ
            (Scf.Loop.for k1_t3_loop k1_t3_ok ⟨⟩ (k1_t3_body (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 k1_pay3)) Q) := by
  iintro H Hk
  iapply (Scf.wp_for frame (wpE (defs₀ (F := F)) 𝒱₀ (thr d L) none) Set.univ _ _ _ k1_t3_ok ⟨⟩ _
    (fun k _ => iprop((thr d L).loc cc1_scratch0 ↦[seg 6656 10240]{fullShare} (mix vI L (6656 + 16 * k)))) (fun k acc => ?hb))
  case hb =>
    refine (trip3 (d := d) hI k acc).trans (wp_mono _ _ _ ?_)
    intro _
    rw [show 6656 + 16 * k.val + 16 = 6656 + 16 * (k.val + 1) by omega]
  isplitl [H]
  · iexact H
  iintro %acc H
  iapply Hk
  iexact H

/-- One trip of loop 4: sixteen more words of the list become positions. -/
theorem trip4 (hI : ∀ j, (vI j).toNat < 100000) (k : Fin k1_t4_loop.trips) (u : Unit) :
    ((thr d L).loc cc1_scratch0 ↦[seg 10240 13312]{fullShare} (mix vI L (10240 + 16 * k.val)))
      ⊢ wp (M := 𝕄) frame (wpE (defs₀ (F := F)) 𝒱₀ (thr d L) none) Set.univ
          (k1_t4_body (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 k1_pay3 k u)
          fun _ => iprop((thr d L).loc cc1_scratch0 ↦[seg 10240 13312]{fullShare} (mix vI L (10240 + 16 * k.val + 16))) := by
  have hk : k.val < 160 := k.isLt
  have hS : ∀ x : S13312.Idx, 10240 + 16 * k.val ≤ (x 0).val → (x 0).val < 10240 + 16 * k.val + 16 → x ∈ seg 10240 13312 := by
    intro x h1 h2; rw [mem_seg]; omega
  iintro H
  unfold k1_t4_body
  simp only [wp_bind]
  iapply (load_idx (d := d) (L := L) (10240 + 16 * k.val) (off30_eq k) hS) $$ H; iintro H
  iapply (load_idx (d := d) (L := L) (10240 + 16 * k.val) (off30_eq k) hS) $$ H; iintro H
  iapply (store_idx (d := d) (L := L) (g' := mix vI L (10240 + 16 * k.val + 16)) (10240 + 16 * k.val) (off30_eq k) hS ?hin ?hout) $$ H
  case hin =>
    intro x h1 h2
    rw [mix_in h2, pay7_apply k _ _ (by rw [mix_lane h1 h2]; exact raw_lt hI _ _), mix_lane h1 h2]
    congr 2; omega
  case hout => intro x _ h; exact mix_out h
  iintro H
  rw [wp_pure]; imodintro; iexact H

/-- Loop 4. -/
theorem loop4 (hI : ∀ j, (vI j).toNat < 100000) {Q : Unit → sProp 𝕄} :
    ((thr d L).loc cc1_scratch0 ↦[seg 10240 13312]{fullShare} (mix vI L 10240))
      ⊢ iprop((((thr d L).loc cc1_scratch0 ↦[seg 10240 13312]{fullShare} (mix vI L 12800)) -∗ Q ⟨⟩)
          -∗ wp frame (wpE (defs₀ (F := F)) 𝒱₀ (thr d L) none) Set.univ
            (Scf.Loop.for k1_t4_loop k1_t4_ok ⟨⟩ (k1_t4_body (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 k1_pay3)) Q) := by
  iintro H Hk
  iapply (Scf.wp_for frame (wpE (defs₀ (F := F)) 𝒱₀ (thr d L) none) Set.univ _ _ _ k1_t4_ok ⟨⟩ _
    (fun k _ => iprop((thr d L).loc cc1_scratch0 ↦[seg 10240 13312]{fullShare} (mix vI L (10240 + 16 * k)))) (fun k acc => ?hb))
  case hb =>
    refine (trip4 (d := d) hI k acc).trans (wp_mono _ _ _ ?_)
    intro _
    rw [show 10240 + 16 * k.val + 16 = 10240 + 16 * (k.val + 1) by omega]
  isplitl [H]
  · iexact H
  iintro %acc H
  iapply Hk
  iexact H

/-! ## Loop 5: the last field's tail positions and positions -/

/-- The tail positions written below `lim`, over what the buffer held. -/
def tdMix (vI : S26x16384.Idx → BitVec 32) (L : grid1.Coords) (g : S512.Idx → BitVec 32) (lim : ℕ) : S512.Idx → BitVec 32 :=
  fun x => if (x 0).val < lim then tdl vI L x else g x

/-- One trip of loop 5. -/
theorem trip5 (hI : ∀ j, (vI j).toNat < 100000) {g : S512.Idx → BitVec 32} (k : Fin k1_t5_loop.trips) (u : Unit) :
    iprop(((thr d L).loc cc1_scratch0 ↦[seg 10240 13312]{fullShare} (mix vI L (16 * k.val + 12800)))
        ∗ ((thr d L).loc cc1_scratch2 ↦[Finset.univ]{fullShare} (tdMix vI L g (16 * k.val))))
      ⊢ wp (M := 𝕄) frame (wpE (defs₀ (F := F)) 𝒱₀ (thr d L) none) Set.univ
          (k1_t5_body (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 k1_pay3 k u)
          fun _ => iprop(((thr d L).loc cc1_scratch0 ↦[seg 10240 13312]{fullShare} (mix vI L (16 * k.val + 12800 + 16)))
            ∗ ((thr d L).loc cc1_scratch2 ↦[Finset.univ]{fullShare} (tdMix vI L g (16 * k.val + 16)))) := by
  have hk : k.val < 32 := k.isLt
  have hS : ∀ x : S13312.Idx, 16 * k.val + 12800 ≤ (x 0).val → (x 0).val < 16 * k.val + 12800 + 16 → x ∈ seg 10240 13312 := by
    intro x h1 h2; rw [mem_seg]; omega
  have hT : ∀ x : S512.Idx, 16 * k.val ≤ (x 0).val → (x 0).val < 16 * k.val + 16 → x ∈ (Finset.univ : Finset S512.Idx) :=
    fun x _ _ => Finset.mem_univ x
  have hlane : ∀ y : S16.Idx, mix vI L (16 * k.val + 12800) (ixL (16 * k.val + 12800 + (y 0).val)) = rawN vI L (16 * k.val + 12800 + (y 0).val) := by
    intro y
    have hy : (y 0).val < 16 := (y 0).isLt
    unfold mix
    have he : ((ixL (16 * k.val + 12800 + (y 0).val)) 0).val = 16 * k.val + 12800 + (y 0).val := Nat.mod_eq_of_lt (by omega)
    rw [if_neg (by rw [he]; omega)]
    show rawN vI L ((ixL (16 * k.val + 12800 + (y 0).val)) 0).val = _
    rw [he]
  have hv : ∀ y : S16.Idx, (mix vI L (16 * k.val + 12800) (ixL (16 * k.val + 12800 + (y 0).val))).toNat < 100000 := by
    intro y; rw [hlane]; exact raw_lt hI _ _
  iintro ⟨H, HT⟩
  unfold k1_t5_body
  simp only [wp_bind]
  iapply (load_idx (d := d) (L := L) (16 * k.val + 12800) (k1_off31_eq k) hS) $$ H; iintro H
  iapply (load_td (d := d) (L := L) (16 * k.val) (k1_off32_eq k) hT) $$ HT; iintro HT
  iapply (store_td (d := d) (L := L) (g' := tdMix vI L g (16 * k.val + 16)) (16 * k.val) (k1_off32_eq k) hT ?hin ?hout) $$ HT
  case hin =>
    intro x h1 h2
    have hx : ((ix16 ((x 0).val - 16 * k.val)) 0).val = (x 0).val - 16 * k.val := Nat.mod_eq_of_lt (by omega)
    rw [pay8_apply _ _ (hv _), hlane, hx]
    unfold tdMix; rw [if_pos (by omega)]
    show tdw (rawN vI L (12800 + (x 0).val)) = _
    congr 2; omega
  case hout =>
    intro x _ h
    unfold tdMix
    by_cases h1 : (x 0).val < 16 * k.val
    · rw [if_pos (by omega), if_pos h1]
    · rw [if_neg (by omega), if_neg h1]
  iintro HT
  iapply (load_idx (d := d) (L := L) (16 * k.val + 12800) (k1_off31_eq k) hS) $$ H; iintro H
  iapply (store_idx (d := d) (L := L) (g' := mix vI L (16 * k.val + 12800 + 16)) (16 * k.val + 12800) (k1_off31_eq k) hS ?hin2 ?hout2) $$ H
  case hin2 =>
    intro x h1 h2
    rw [mix_in h2, pay9_apply _ _ (hv _), mix_lane h1 h2]
    have : (x 0).val / 512 = 25 := by omega
    rw [this]
  case hout2 => intro x _ h; exact mix_out h
  iintro H
  rw [wp_pure]; imodintro
  isplitl [H]
  · iexact H
  · iexact HT

/-- Loop 5. -/
theorem loop5 (hI : ∀ j, (vI j).toNat < 100000) {g : S512.Idx → BitVec 32} {Q : Unit → sProp 𝕄} :
    ((thr d L).loc cc1_scratch0 ↦[seg 10240 13312]{fullShare} (mix vI L 12800))
      ⊢ iprop(((thr d L).loc cc1_scratch2 ↦[Finset.univ]{fullShare} g)
          -∗ (((thr d L).loc cc1_scratch0 ↦[seg 10240 13312]{fullShare} (mix vI L 13312))
            -∗ ((thr d L).loc cc1_scratch2 ↦[Finset.univ]{fullShare} (tdl vI L)) -∗ Q ⟨⟩)
          -∗ wp frame (wpE (defs₀ (F := F)) 𝒱₀ (thr d L) none) Set.univ
            (Scf.Loop.for k1_t5_loop k1_t5_ok ⟨⟩ (k1_t5_body (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 k1_pay3)) Q) := by
  iintro H HT Hk
  iapply (Scf.wp_for frame (wpE (defs₀ (F := F)) 𝒱₀ (thr d L) none) Set.univ _ _ _ k1_t5_ok ⟨⟩ _
    (fun k _ => iprop(((thr d L).loc cc1_scratch0 ↦[seg 10240 13312]{fullShare} (mix vI L (16 * k + 12800)))
        ∗ ((thr d L).loc cc1_scratch2 ↦[Finset.univ]{fullShare} (tdMix vI L g (16 * k))))) (fun k acc => ?hb))
  case hb =>
    refine (trip5 (d := d) hI k acc).trans (wp_mono _ _ _ ?_)
    intro _
    rw [show 16 * k.val + 12800 + 16 = 16 * (k.val + 1) + 12800 by omega, show 16 * k.val + 16 = 16 * (k.val + 1) by omega]
  isplitl [H HT]
  · isplitl [H]
    · iexact H
    · rw [show tdMix vI L g (16 * 0) = g from funext fun x => if_neg (by omega)]; iexact HT
  iintro %acc ⟨H, HT⟩
  iapply Hk $$ [H]
  · iexact H
  · rw [show tdMix vI L g (16 * Scf.trips k1_t5_loop.lb k1_t5_loop.ub k1_t5_loop.st) = tdl vI L from funext fun x => if_pos (show (x 0).val < 512 from (x 0).isLt)]
    iexact HT

end Cert.Proof

end
-- ==== Proof.SumLoops.lean ====
/-
  The last four loops: the gathered words are added to the bias, wave by wave, and the results formed.
-/
module

public import proofs.«01_k».proof.Proof.IndexLoops

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable {d : Dev nD} {L : grid1.Coords} {vI : S26x16384.Idx → BitVec 32}

variable {vW : S2599936.Idx → F .f32} {vT : S64.Idx → F .f32} {vB : S16.Idx → F .f32}

/-! ## The running sums -/

/-- What a 512-word buffer holds when the words below `lim` are `h`'s and the rest `g`'s. -/
def upto {α : Type} (h g : S512.Idx → α) (lim : ℕ) : S512.Idx → α := fun x => if (x 0).val < lim then h x else g x

/-- A block of sixteen changes no word outside it. -/
theorem upto_out {α : Type} {h g : S512.Idx → α} {o : ℕ} {x : S512.Idx} (hx : ¬(o ≤ (x 0).val ∧ (x 0).val < o + 16)) :
    upto h g (o + 16) x = upto h g o x := by
  unfold upto
  by_cases h1 : (x 0).val < o
  · rw [if_pos (by omega), if_pos h1]
  · rw [if_neg (by omega), if_neg h1]

/-- A word below the end of the block is done. -/
theorem upto_in {α : Type} {h g : S512.Idx → α} {o : ℕ} {x : S512.Idx} (hx : (x 0).val < o + 16) : upto h g (o + 16) x = h x := if_pos hx

/-- At the start nothing is done. -/
theorem upto_zero {α : Type} {h g : S512.Idx → α} : upto h g (16 * 0) = g := funext fun x => if_neg (by omega)

/-- After 32 blocks everything is done. -/
theorem upto_all {α : Type} {h g : S512.Idx → α} : upto h g (16 * 32) = h := funext fun x => if_pos (show (x 0).val < 512 from (x 0).isLt)

/-- A lane of the block to come still holds the old word. -/
theorem upto_lane {α : Type} {h g : S512.Idx → α} {o : ℕ} {x : S512.Idx} (h1 : o ≤ (x 0).val) (h2 : (x 0).val < o + 16) :
    upto h g o (ixB (o + ((ix16 ((x 0).val - o)) 0).val)) = g x := by
  rw [ixB_lane h1 h2]; exact if_neg (by omega)

/-- The bias plus the first `k` fields' words, row by row. -/
def sums (vI : S26x16384.Idx → BitVec 32) (vW : S2599936.Idx → F .f32) (vB : S16.Idx → F .f32) (L : grid1.Coords) (k : ℕ) : S512.Idx → F .f32 :=
  fun x => addFields vI vW L (x 0).val (vB (ix16 (x 0).val)) 0 k

/-- The written values, row by row. -/
def outs (vI : S26x16384.Idx → BitVec 32) (vW : S2599936.Idx → F .f32) (vT : S64.Idx → F .f32) (vB : S16.Idx → F .f32) (L : grid1.Coords) :
    S512.Idx → F .f32 := fun x => outN vI vW vT vB L (x 0).val

/-- A lane of a load of the gathered words. -/
theorem gat_lane {m k p : ℕ} (hp : p = m + 16 * k) {x : S512.Idx} (h1 : 16 * k ≤ (x 0).val) (h2 : (x 0).val < 16 * k + 16) (hm : m + 512 ≤ 13312) :
    gat vI vW L (ixL (p + ((ix16 ((x 0).val - 16 * k)) 0).val)) = gatN vI vW L (m + (x 0).val) := by
  have hx : (x 0).val < 512 := (x 0).isLt
  have he : ((ixL (p + ((ix16 ((x 0).val - 16 * k)) 0).val)) 0).val = m + (x 0).val := by
    show (p + ((x 0).val - 16 * k) % 16) % 13312 = _
    subst hp; omega
  show gatN vI vW L ((ixL (p + ((ix16 ((x 0).val - 16 * k)) 0).val)) 0).val = _
  rw [he]

/-- The lane of a word counted from its block's start, or from the buffer's. -/
theorem ix16_lane {k n : ℕ} (h1 : 16 * k ≤ n) : ix16 (n - 16 * k) = ix16 n := by
  funext a; apply Fin.ext; fin_cases a
  show (n - 16 * k) % 16 = n % 16
  omega

/-! ## Loops 6 to 8: one wave's words added -/

/-- One trip of loop 6. -/
theorem trip6 {g : S512.Idx → F .f32} (k : Fin k1_t6_loop.trips) (u : Unit) :
    iprop(((thr d L).loc cc1_scratch1 ↦[seg 0 3584]{fullShare} (gat vI vW L))
        ∗ ((thr d L).loc cc1_scratch4 ↦[Finset.univ]{fullShare} (upto (sums vI vW vB L 7) g (16 * k.val))))
      ⊢ wp (M := 𝕄) frame (wpE (defs₀ (F := F)) 𝒱₀ (thr d L) none) Set.univ
          (k1_t6_body (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 vB k1_pay10 k u)
          fun _ => iprop(((thr d L).loc cc1_scratch1 ↦[seg 0 3584]{fullShare} (gat vI vW L))
            ∗ ((thr d L).loc cc1_scratch4 ↦[Finset.univ]{fullShare} (upto (sums vI vW vB L 7) g (16 * k.val + 16)))) := by
  have hk : k.val < 32 := k.isLt
  have hT : ∀ x : S512.Idx, 16 * k.val ≤ (x 0).val → (x 0).val < 16 * k.val + 16 → x ∈ (Finset.univ : Finset S512.Idx) :=
    fun x _ _ => Finset.mem_univ x
  iintro ⟨HV, HA⟩
  unfold k1_t6_body
  simp only [wp_bind]
  iapply (load_val (d := d) (L := L) (512 * 0 + 16 * k.val) (k1_off33_eq k 0) (by intro x h1 h2; rw [mem_seg]; omega)) $$ HV; iintro HV
  iapply (load_val (d := d) (L := L) (512 * 1 + 16 * k.val) (k1_off33_eq k 1) (by intro x h1 h2; rw [mem_seg]; omega)) $$ HV; iintro HV
  iapply (load_val (d := d) (L := L) (512 * 2 + 16 * k.val) (k1_off33_eq k 2) (by intro x h1 h2; rw [mem_seg]; omega)) $$ HV; iintro HV
  iapply (load_val (d := d) (L := L) (512 * 3 + 16 * k.val) (k1_off33_eq k 3) (by intro x h1 h2; rw [mem_seg]; omega)) $$ HV; iintro HV
  iapply (load_val (d := d) (L := L) (512 * 4 + 16 * k.val) (k1_off33_eq k 4) (by intro x h1 h2; rw [mem_seg]; omega)) $$ HV; iintro HV
  iapply (load_val (d := d) (L := L) (512 * 5 + 16 * k.val) (k1_off33_eq k 5) (by intro x h1 h2; rw [mem_seg]; omega)) $$ HV; iintro HV
  iapply (load_val (d := d) (L := L) (512 * 6 + 16 * k.val) (k1_off33_eq k 6) (by intro x h1 h2; rw [mem_seg]; omega)) $$ HV; iintro HV
  iapply (load_acc (d := d) (L := L) (16 * k.val) (k1_off34_eq k) hT) $$ HA; iintro HA
  iapply (store_acc (d := d) (L := L) (g' := upto (sums vI vW vB L 7) g (16 * k.val + 16)) (16 * k.val) (k1_off34_eq k) hT ?hin ?hout) $$ HA
  case hin =>
    intro x h1 h2
    rw [upto_in h2]
    unfold k1_pay11
    simp only [addf]
    rw [gat_lane (m := 0) (p := 512 * 0 + 16 * k.val) (by omega) h1 h2 (by omega), gat_lane (m := 512) (p := 512 * 1 + 16 * k.val) (by omega) h1 h2 (by omega), gat_lane (m := 1024) (p := 512 * 2 + 16 * k.val) (by omega) h1 h2 (by omega), gat_lane (m := 1536) (p := 512 * 3 + 16 * k.val) (by omega) h1 h2 (by omega), gat_lane (m := 2048) (p := 512 * 4 + 16 * k.val) (by omega) h1 h2 (by omega), gat_lane (m := 2560) (p := 512 * 5 + 16 * k.val) (by omega) h1 h2 (by omega), gat_lane (m := 3072) (p := 512 * 6 + 16 * k.val) (by omega) h1 h2 (by omega), ix16_lane h1]
    rfl
  case hout => intro x _ h; exact upto_out h
  iintro HA
  rw [wp_pure]; imodintro
  isplitl [HV]
  · iexact HV
  · iexact HA

/-- Loop 6: the words of fields 0 to 6 are added. -/
theorem loop6 {g : S512.Idx → F .f32} {Q : Unit → sProp 𝕄} :
    ((thr d L).loc cc1_scratch1 ↦[seg 0 3584]{fullShare} (gat vI vW L))
      ⊢ iprop(((thr d L).loc cc1_scratch4 ↦[Finset.univ]{fullShare} g)
          -∗ (((thr d L).loc cc1_scratch1 ↦[seg 0 3584]{fullShare} (gat vI vW L))
            -∗ ((thr d L).loc cc1_scratch4 ↦[Finset.univ]{fullShare} (sums vI vW vB L 7)) -∗ Q ⟨⟩)
          -∗ wp (M := 𝕄) frame (wpE (defs₀ (F := F)) 𝒱₀ (thr d L) none) Set.univ
            (Scf.Loop.for k1_t6_loop k1_t6_ok ⟨⟩ (k1_t6_body (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 vB k1_pay10)) Q) := by
  iintro HV HA Hk
  iapply (Scf.wp_for frame (wpE (defs₀ (F := F)) 𝒱₀ (thr d L) none) Set.univ _ _ _ k1_t6_ok ⟨⟩ _
    (fun k _ => iprop(((thr d L).loc cc1_scratch1 ↦[seg 0 3584]{fullShare} (gat vI vW L))
        ∗ ((thr d L).loc cc1_scratch4 ↦[Finset.univ]{fullShare} (upto (sums vI vW vB L 7) g (16 * k))))) (fun k acc => ?hb))
  case hb =>
    refine (trip6 (d := d) k acc).trans (wp_mono _ _ _ ?_)
    intro _
    rw [show 16 * k.val + 16 = 16 * (k.val + 1) by omega]
  isplitl [HV HA]
  · isplitl [HV]
    · iexact HV
    · rw [upto_zero]; iexact HA
  iintro %acc ⟨HV, HA⟩
  iapply Hk $$ [HV]
  · iexact HV
  · rw [show 16 * Scf.trips k1_t6_loop.lb k1_t6_loop.ub k1_t6_loop.st = 16 * 32 from rfl, upto_all]
    iexact HA

/-- One trip of loop 7. -/
theorem trip7 {v333 : Vec F S16 .f32} (k : Fin k1_t7_loop.trips) (u : Unit) :
    iprop(((thr d L).loc cc1_scratch1 ↦[seg 3584 6656]{fullShare} (gat vI vW L))
        ∗ ((thr d L).loc cc1_scratch4 ↦[Finset.univ]{fullShare} (upto (sums vI vW vB L 13) (sums vI vW vB L 7) (16 * k.val))))
      ⊢ wp (M := 𝕄) frame (wpE (defs₀ (F := F)) 𝒱₀ (thr d L) none) Set.univ
          (k1_t7_body (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 v333 k1_pay10 k u)
          fun _ => iprop(((thr d L).loc cc1_scratch1 ↦[seg 3584 6656]{fullShare} (gat vI vW L))
            ∗ ((thr d L).loc cc1_scratch4 ↦[Finset.univ]{fullShare} (upto (sums vI vW vB L 13) (sums vI vW vB L 7) (16 * k.val + 16)))) := by
  have hk : k.val < 32 := k.isLt
  have hT : ∀ x : S512.Idx, 16 * k.val ≤ (x 0).val → (x 0).val < 16 * k.val + 16 → x ∈ (Finset.univ : Finset S512.Idx) :=
    fun x _ _ => Finset.mem_univ x
  iintro ⟨HV, HA⟩
  unfold k1_t7_body
  simp only [wp_bind]
  iapply (load_acc (d := d) (L := L) (16 * k.val) (k1_off35_eq k) hT) $$ HA; iintro HA
  iapply (load_val (d := d) (L := L) (512 * 0 + 16 * k.val + 3584) (k1_off36_eq k 0) (by intro x h1 h2; rw [mem_seg]; omega)) $$ HV; iintro HV
  iapply (load_val (d := d) (L := L) (512 * 1 + 16 * k.val + 3584) (k1_off36_eq k 1) (by intro x h1 h2; rw [mem_seg]; omega)) $$ HV; iintro HV
  iapply (load_val (d := d) (L := L) (512 * 2 + 16 * k.val + 3584) (k1_off36_eq k 2) (by intro x h1 h2; rw [mem_seg]; omega)) $$ HV; iintro HV
  iapply (load_val (d := d) (L := L) (512 * 3 + 16 * k.val + 3584) (k1_off36_eq k 3) (by intro x h1 h2; rw [mem_seg]; omega)) $$ HV; iintro HV
  iapply (load_val (d := d) (L := L) (512 * 4 + 16 * k.val + 3584) (k1_off36_eq k 4) (by intro x h1 h2; rw [mem_seg]; omega)) $$ HV; iintro HV
  iapply (load_val (d := d) (L := L) (512 * 5 + 16 * k.val + 3584) (k1_off36_eq k 5) (by intro x h1 h2; rw [mem_seg]; omega)) $$ HV; iintro HV
  iapply (load_acc (d := d) (L := L) (16 * k.val) (k1_off35_eq k) hT) $$ HA; iintro HA
  iapply (store_acc (d := d) (L := L) (g' := upto (sums vI vW vB L 13) (sums vI vW vB L 7) (16 * k.val + 16)) (16 * k.val) (k1_off35_eq k) hT ?hin ?hout) $$ HA
  case hin =>
    intro x h1 h2
    rw [upto_in h2]
    unfold k1_pay12
    simp only [addf]
    rw [gat_lane (m := 3584) (p := 512 * 0 + 16 * k.val + 3584) (by omega) h1 h2 (by omega), gat_lane (m := 4096) (p := 512 * 1 + 16 * k.val + 3584) (by omega) h1 h2 (by omega), gat_lane (m := 4608) (p := 512 * 2 + 16 * k.val + 3584) (by omega) h1 h2 (by omega), gat_lane (m := 5120) (p := 512 * 3 + 16 * k.val + 3584) (by omega) h1 h2 (by omega), gat_lane (m := 5632) (p := 512 * 4 + 16 * k.val + 3584) (by omega) h1 h2 (by omega), gat_lane (m := 6144) (p := 512 * 5 + 16 * k.val + 3584) (by omega) h1 h2 (by omega), upto_lane h1 h2]
    rfl
  case hout => intro x _ h; exact upto_out h
  iintro HA
  rw [wp_pure]; imodintro
  isplitl [HV]
  · iexact HV
  · iexact HA

/-- Loop 7: the words of fields 7 to 12 are added. -/
theorem loop7 {v333 : Vec F S16 .f32} {Q : Unit → sProp 𝕄} :
    ((thr d L).loc cc1_scratch1 ↦[seg 3584 6656]{fullShare} (gat vI vW L))
      ⊢ iprop(((thr d L).loc cc1_scratch4 ↦[Finset.univ]{fullShare} (sums vI vW vB L 7))
          -∗ (((thr d L).loc cc1_scratch1 ↦[seg 3584 6656]{fullShare} (gat vI vW L))
            -∗ ((thr d L).loc cc1_scratch4 ↦[Finset.univ]{fullShare} (sums vI vW vB L 13)) -∗ Q ⟨⟩)
          -∗ wp (M := 𝕄) frame (wpE (defs₀ (F := F)) 𝒱₀ (thr d L) none) Set.univ
            (Scf.Loop.for k1_t7_loop k1_t7_ok ⟨⟩ (k1_t7_body (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 v333 k1_pay10)) Q) := by
  iintro HV HA Hk
  iapply (Scf.wp_for frame (wpE (defs₀ (F := F)) 𝒱₀ (thr d L) none) Set.univ _ _ _ k1_t7_ok ⟨⟩ _
    (fun k _ => iprop(((thr d L).loc cc1_scratch1 ↦[seg 3584 6656]{fullShare} (gat vI vW L))
        ∗ ((thr d L).loc cc1_scratch4 ↦[Finset.univ]{fullShare} (upto (sums vI vW vB L 13) (sums vI vW vB L 7) (16 * k))))) (fun k acc => ?hb))
  case hb =>
    refine (trip7 (d := d) k acc).trans (wp_mono _ _ _ ?_)
    intro _
    rw [show 16 * k.val + 16 = 16 * (k.val + 1) by omega]
  isplitl [HV HA]
  · isplitl [HV]
    · iexact HV
    · rw [upto_zero]; iexact HA
  iintro %acc ⟨HV, HA⟩
  iapply Hk $$ [HV]
  · iexact HV
  · rw [show 16 * Scf.trips k1_t7_loop.lb k1_t7_loop.ub k1_t7_loop.st = 16 * 32 from rfl, upto_all]
    iexact HA

/-- One trip of loop 8. -/
theorem trip8 {v333 : Vec F S16 .f32} (k : Fin k1_t8_loop.trips) (u : Unit) :
    iprop(((thr d L).loc cc1_scratch1 ↦[seg 6656 10240]{fullShare} (gat vI vW L))
        ∗ ((thr d L).loc cc1_scratch4 ↦[Finset.univ]{fullShare} (upto (sums vI vW vB L 20) (sums vI vW vB L 13) (16 * k.val))))
      ⊢ wp (M := 𝕄) frame (wpE (defs₀ (F := F)) 𝒱₀ (thr d L) none) Set.univ
          (k1_t8_body (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 v333 k1_pay10 k u)
          fun _ => iprop(((thr d L).loc cc1_scratch1 ↦[seg 6656 10240]{fullShare} (gat vI vW L))
            ∗ ((thr d L).loc cc1_scratch4 ↦[Finset.univ]{fullShare} (upto (sums vI vW vB L 20) (sums vI vW vB L 13) (16 * k.val + 16)))) := by
  have hk : k.val < 32 := k.isLt
  have hT : ∀ x : S512.Idx, 16 * k.val ≤ (x 0).val → (x 0).val < 16 * k.val + 16 → x ∈ (Finset.univ : Finset S512.Idx) :=
    fun x _ _ => Finset.mem_univ x
  iintro ⟨HV, HA⟩
  unfold k1_t8_body
  simp only [wp_bind]
  iapply (load_acc (d := d) (L := L) (16 * k.val) (k1_off37_eq k) hT) $$ HA; iintro HA
  iapply (load_val (d := d) (L := L) (512 * 0 + 16 * k.val + 6656) (k1_off38_eq k 0) (by intro x h1 h2; rw [mem_seg]; omega)) $$ HV; iintro HV
  iapply (load_val (d := d) (L := L) (512 * 1 + 16 * k.val + 6656) (k1_off38_eq k 1) (by intro x h1 h2; rw [mem_seg]; omega)) $$ HV; iintro HV
  iapply (load_val (d := d) (L := L) (512 * 2 + 16 * k.val + 6656) (k1_off38_eq k 2) (by intro x h1 h2; rw [mem_seg]; omega)) $$ HV; iintro HV
  iapply (load_val (d := d) (L := L) (512 * 3 + 16 * k.val + 6656) (k1_off38_eq k 3) (by intro x h1 h2; rw [mem_seg]; omega)) $$ HV; iintro HV
  iapply (load_val (d := d) (L := L) (512 * 4 + 16 * k.val + 6656) (k1_off38_eq k 4) (by intro x h1 h2; rw [mem_seg]; omega)) $$ HV; iintro HV
  iapply (load_val (d := d) (L := L) (512 * 5 + 16 * k.val + 6656) (k1_off38_eq k 5) (by intro x h1 h2; rw [mem_seg]; omega)) $$ HV; iintro HV
  iapply (load_val (d := d) (L := L) (512 * 6 + 16 * k.val + 6656) (k1_off38_eq k 6) (by intro x h1 h2; rw [mem_seg]; omega)) $$ HV; iintro HV
  iapply (load_acc (d := d) (L := L) (16 * k.val) (k1_off37_eq k) hT) $$ HA; iintro HA
  iapply (store_acc (d := d) (L := L) (g' := upto (sums vI vW vB L 20) (sums vI vW vB L 13) (16 * k.val + 16)) (16 * k.val) (k1_off37_eq k) hT ?hin ?hout) $$ HA
  case hin =>
    intro x h1 h2
    rw [upto_in h2]
    unfold k1_pay13
    simp only [addf]
    rw [gat_lane (m := 6656) (p := 512 * 0 + 16 * k.val + 6656) (by omega) h1 h2 (by omega), gat_lane (m := 7168) (p := 512 * 1 + 16 * k.val + 6656) (by omega) h1 h2 (by omega), gat_lane (m := 7680) (p := 512 * 2 + 16 * k.val + 6656) (by omega) h1 h2 (by omega), gat_lane (m := 8192) (p := 512 * 3 + 16 * k.val + 6656) (by omega) h1 h2 (by omega), gat_lane (m := 8704) (p := 512 * 4 + 16 * k.val + 6656) (by omega) h1 h2 (by omega), gat_lane (m := 9216) (p := 512 * 5 + 16 * k.val + 6656) (by omega) h1 h2 (by omega), gat_lane (m := 9728) (p := 512 * 6 + 16 * k.val + 6656) (by omega) h1 h2 (by omega), upto_lane h1 h2]
    rfl
  case hout => intro x _ h; exact upto_out h
  iintro HA
  rw [wp_pure]; imodintro
  isplitl [HV]
  · iexact HV
  · iexact HA

/-- Loop 8: the words of fields 13 to 19 are added. -/
theorem loop8 {v333 : Vec F S16 .f32} {Q : Unit → sProp 𝕄} :
    ((thr d L).loc cc1_scratch1 ↦[seg 6656 10240]{fullShare} (gat vI vW L))
      ⊢ iprop(((thr d L).loc cc1_scratch4 ↦[Finset.univ]{fullShare} (sums vI vW vB L 13))
          -∗ (((thr d L).loc cc1_scratch1 ↦[seg 6656 10240]{fullShare} (gat vI vW L))
            -∗ ((thr d L).loc cc1_scratch4 ↦[Finset.univ]{fullShare} (sums vI vW vB L 20)) -∗ Q ⟨⟩)
          -∗ wp (M := 𝕄) frame (wpE (defs₀ (F := F)) 𝒱₀ (thr d L) none) Set.univ
            (Scf.Loop.for k1_t8_loop k1_t8_ok ⟨⟩ (k1_t8_body (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 v333 k1_pay10)) Q) := by
  iintro HV HA Hk
  iapply (Scf.wp_for frame (wpE (defs₀ (F := F)) 𝒱₀ (thr d L) none) Set.univ _ _ _ k1_t8_ok ⟨⟩ _
    (fun k _ => iprop(((thr d L).loc cc1_scratch1 ↦[seg 6656 10240]{fullShare} (gat vI vW L))
        ∗ ((thr d L).loc cc1_scratch4 ↦[Finset.univ]{fullShare} (upto (sums vI vW vB L 20) (sums vI vW vB L 13) (16 * k))))) (fun k acc => ?hb))
  case hb =>
    refine (trip8 (d := d) k acc).trans (wp_mono _ _ _ ?_)
    intro _
    rw [show 16 * k.val + 16 = 16 * (k.val + 1) by omega]
  isplitl [HV HA]
  · isplitl [HV]
    · iexact HV
    · rw [upto_zero]; iexact HA
  iintro %acc ⟨HV, HA⟩
  iapply Hk $$ [HV]
  · iexact HV
  · rw [show 16 * Scf.trips k1_t8_loop.lb k1_t8_loop.ub k1_t8_loop.st = 16 * 32 from rfl, upto_all]
    iexact HA

/-! ## Loop 9: the last wave's words, the tail word, and the logistic function -/

/-- Whether a tail position is positive: whether the index lies past the flat table. -/
theorem tdw_pos {v : BitVec 32} (hv : v.toNat < 100000) : IntOp.cmpi .sgt (tdw v) 0#32 = BitVec.ofBool (decide (99936 ≤ v.toNat)) := by
  have h1 := tdw_lt hv
  show BitVec.ofBool ((0#32 : BitVec 32).slt (tdw v)) = _
  rw [slt_small (by decide) (by omega)]
  congr 2
  unfold tdw
  by_cases h : 99936 ≤ v.toNat
  · rw [if_pos h]; simp only [BitVec.toNat_ofNat, h]; simp; omega
  · rw [if_neg h]; simp [h]

/-- The lane of the tail table's word, where it is used. -/
theorem tail_lane (hI : ∀ j, (vI j).toNat < 100000) {k : ℕ} {x : S512.Idx} (h1 : 16 * k ≤ (x 0).val) (h2 : (x 0).val < 16 * k + 16) (a b : F .f32)
    (ha : 99936 ≤ (rawN vI L (12800 + (x 0).val)).toNat → a = vT (ixT ((rawN vI L (12800 + (x 0).val)).toNat - 99936)))
    (hb : b = gatN vI vW L (12800 + (x 0).val)) :
    Scalar.select (IntOp.cmpi .sgt (tdl vI L (ixB (16 * k + ((ix16 ((x 0).val - 16 * k)) 0).val))) 0#32) a b = lastW vI vW vT L (x 0).val := by
  rw [ixB_lane h1 h2]
  show Scalar.select (IntOp.cmpi .sgt (tdw (rawN vI L (12800 + (x 0).val))) 0#32) a b = _
  rw [tdw_pos (raw_lt hI _ _)]
  unfold Scalar.select lastW
  by_cases h : 99936 ≤ (rawN vI L (12800 + (x 0).val)).toNat
  · rw [if_pos (by simp [h]), if_pos h, ha h]
  · rw [if_neg (by simp [h]), if_neg h, hb]

/-- The whole view of the tail table reads it. -/
theorem read_wt (f : S64.Idx → F .f32) : (wtM.access (.whole S64)).read (Elt F) f = f := by
  funext x
  rw [View.read_apply]
  show f (((Rect.whole S64).toLoadRect).idx x) = f x
  congr 1
  funext a; apply Fin.ext; fin_cases a
  show 0 + 1 * (x 0).val = (x 0).val
  omega

/-- One trip of loop 9. -/
theorem trip9 (hI : ∀ j, (vI j).toNat < 100000) {g : S512.Idx → F .f32} {v333 : Vec F S16 .f32} (k : Fin k1_t9_loop.trips) (u : Unit) :
    iprop(((thr d L).loc cc1_scratch1 ↦[seg 10240 13312]{fullShare} (gat vI vW L))
        ∗ ((thr d L).loc cc1_scratch4 ↦[Finset.univ]{fullShare} (sums vI vW vB L 20))
        ∗ ((thr d L).loc cc1_scratch2 ↦[Finset.univ]{fullShare} (tdl vI L))
        ∗ ((thr d L).loc cc1_scratch3 ↦[Finset.univ]{fullShare} vT)
        ∗ ((thr d L).loc cc1_scratch5 ↦[Finset.univ]{fullShare} (upto (outs vI vW vT vB L) g (16 * k.val))))
      ⊢ wp (M := 𝕄) frame (wpE (defs₀ (F := F)) 𝒱₀ (thr d L) none) Set.univ
          (k1_t9_body (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 v333 k1_pay10 k u)
          fun _ => iprop(((thr d L).loc cc1_scratch1 ↦[seg 10240 13312]{fullShare} (gat vI vW L))
        ∗ ((thr d L).loc cc1_scratch4 ↦[Finset.univ]{fullShare} (sums vI vW vB L 20))
        ∗ ((thr d L).loc cc1_scratch2 ↦[Finset.univ]{fullShare} (tdl vI L))
        ∗ ((thr d L).loc cc1_scratch3 ↦[Finset.univ]{fullShare} vT)
        ∗ ((thr d L).loc cc1_scratch5 ↦[Finset.univ]{fullShare} (upto (outs vI vW vT vB L) g (16 * k.val + 16)))) := by
  have hk : k.val < 32 := k.isLt
  have hT : ∀ x : S512.Idx, 16 * k.val ≤ (x 0).val → (x 0).val < 16 * k.val + 16 → x ∈ (Finset.univ : Finset S512.Idx) :=
    fun x _ _ => Finset.mem_univ x
  have hd : ∀ y : S16.Idx, (tdl vI L (ixB (16 * k.val + (y 0).val))).toNat < 65 := fun y => tdw_lt (raw_lt hI _ _)
  iintro ⟨HV, HA, HT, HW, HO⟩
  unfold k1_t9_body
  rw [k1_part1_eq_skeleton]
  unfold k1_part1_skel
  simp only [wp_bind]
  iapply (load_acc (d := d) (L := L) (16 * k.val) (k1_off39_eq k) hT) $$ HA; iintro HA
  iapply (load_val (d := d) (L := L) (512 * 0 + 16 * k.val + 10240) (k1_off40_eq k 0) (by intro x h1 h2; rw [mem_seg]; omega)) $$ HV; iintro HV
  iapply (load_val (d := d) (L := L) (512 * 1 + 16 * k.val + 10240) (k1_off40_eq k 1) (by intro x h1 h2; rw [mem_seg]; omega)) $$ HV; iintro HV
  iapply (load_val (d := d) (L := L) (512 * 2 + 16 * k.val + 10240) (k1_off40_eq k 2) (by intro x h1 h2; rw [mem_seg]; omega)) $$ HV; iintro HV
  iapply (load_val (d := d) (L := L) (512 * 3 + 16 * k.val + 10240) (k1_off40_eq k 3) (by intro x h1 h2; rw [mem_seg]; omega)) $$ HV; iintro HV
  iapply (load_val (d := d) (L := L) (512 * 4 + 16 * k.val + 10240) (k1_off40_eq k 4) (by intro x h1 h2; rw [mem_seg]; omega)) $$ HV; iintro HV
  iapply (load_val (d := d) (L := L) (512 * 5 + 16 * k.val + 10240) (k1_off40_eq k 5) (by intro x h1 h2; rw [mem_seg]; omega)) $$ HV; iintro HV
  iapply (load_td (d := d) (L := L) (16 * k.val) (k1_off39_eq k) hT) $$ HT; iintro HT
  iapply (wp_assume 𝒱₀ (thr d L) none Set.univ (chk1 _ hd))
  rw [wp_ret]; imodintro
  rw [← bind_pure (SparseCore.vectorLoadIdx _ _ _ _)]
  iapply (SparseCore.wp_vectorLoadIdx (defs := defs₀ (F := F)) 𝒱₀ (thr d L) none Set.univ (base := wtM) (S := Finset.univ) (q := fullShare) (f := vT) (Finset.subset_univ _)) $$ HW; iintro HW
  rw [wp_pure]; imodintro
  iapply (load_out (d := d) (L := L) (16 * k.val) (k1_off41_eq k) hT) $$ HO; iintro HO
  iapply (store_out (d := d) (L := L) (g' := upto (outs vI vW vT vB L) g (16 * k.val + 16)) (16 * k.val) (k1_off41_eq k) hT ?hin ?hout) $$ HO
  case hin =>
    intro x h1 h2
    rw [upto_in h2, read_wt]
    unfold k1_pay2
    simp only [addf, subf, divf, exp, select, cmpi, broadcast]
    rw [tail_lane hI h1 h2 _ _ ?ha (gat_lane (m := 12800) (p := 512 * 5 + 16 * k.val + 10240) (by omega) h1 h2 (by omega)), ixB_lane h1 h2, gat_lane (m := 10240) (p := 512 * 0 + 16 * k.val + 10240) (by omega) h1 h2 (by omega), gat_lane (m := 10752) (p := 512 * 1 + 16 * k.val + 10240) (by omega) h1 h2 (by omega), gat_lane (m := 11264) (p := 512 * 2 + 16 * k.val + 10240) (by omega) h1 h2 (by omega), gat_lane (m := 11776) (p := 512 * 3 + 16 * k.val + 10240) (by omega) h1 h2 (by omega), gat_lane (m := 12288) (p := 512 * 4 + 16 * k.val + 10240) (by omega) h1 h2 (by omega)]
    · rfl
    case ha =>
      intro hv
      show vT _ = _
      congr 1
      funext a; apply Fin.ext; fin_cases a
      show (k1_pay1 (F := F) k1_pay10 _ _).toNat = _
      rw [pay1_apply _ _ (hd _), ixB_lane h1 h2]
      show (tdw (rawN vI L (12800 + (x 0).val))).toNat - 1 = ((rawN vI L (12800 + (x 0).val)).toNat - 99936) % 64
      have := raw_lt hI L (12800 + (x 0).val)
      unfold tdw; rw [if_pos hv, BitVec.toNat_ofNat]; omega
  case hout => intro x _ h; exact upto_out h
  iintro HO
  simp only [wp_pure]; imodintro; imodintro
  isplitl [HV]
  · iexact HV
  isplitl [HA]
  · iexact HA
  isplitl [HT]
  · iexact HT
  isplitl [HW]
  · iexact HW
  · iexact HO

/-- Loop 9: the results of the tile's 512 rows. -/
theorem loop9 (hI : ∀ j, (vI j).toNat < 100000) {g : S512.Idx → F .f32} {v333 : Vec F S16 .f32} {Q : Unit → sProp 𝕄} :
    iprop(((thr d L).loc cc1_scratch1 ↦[seg 10240 13312]{fullShare} (gat vI vW L))
        ∗ ((thr d L).loc cc1_scratch4 ↦[Finset.univ]{fullShare} (sums vI vW vB L 20))
        ∗ ((thr d L).loc cc1_scratch2 ↦[Finset.univ]{fullShare} (tdl vI L))
        ∗ ((thr d L).loc cc1_scratch3 ↦[Finset.univ]{fullShare} vT)
        ∗ ((thr d L).loc cc1_scratch5 ↦[Finset.univ]{fullShare} g))
      ⊢ iprop((((thr d L).loc cc1_scratch1 ↦[seg 10240 13312]{fullShare} (gat vI vW L))
        ∗ ((thr d L).loc cc1_scratch4 ↦[Finset.univ]{fullShare} (sums vI vW vB L 20))
        ∗ ((thr d L).loc cc1_scratch2 ↦[Finset.univ]{fullShare} (tdl vI L))
        ∗ ((thr d L).loc cc1_scratch3 ↦[Finset.univ]{fullShare} vT)
        ∗ ((thr d L).loc cc1_scratch5 ↦[Finset.univ]{fullShare} (outs vI vW vT vB L)) -∗ Q ⟨⟩)
          -∗ wp (M := 𝕄) frame (wpE (defs₀ (F := F)) 𝒱₀ (thr d L) none) Set.univ
            (Scf.Loop.for k1_t9_loop k1_t9_ok ⟨⟩ (k1_t9_body (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 v333 k1_pay10)) Q) := by
  iintro H Hk
  iapply (Scf.wp_for frame (wpE (defs₀ (F := F)) 𝒱₀ (thr d L) none) Set.univ _ _ _ k1_t9_ok ⟨⟩ _
    (fun k _ => iprop(((thr d L).loc cc1_scratch1 ↦[seg 10240 13312]{fullShare} (gat vI vW L))
        ∗ ((thr d L).loc cc1_scratch4 ↦[Finset.univ]{fullShare} (sums vI vW vB L 20))
        ∗ ((thr d L).loc cc1_scratch2 ↦[Finset.univ]{fullShare} (tdl vI L))
        ∗ ((thr d L).loc cc1_scratch3 ↦[Finset.univ]{fullShare} vT)
        ∗ ((thr d L).loc cc1_scratch5 ↦[Finset.univ]{fullShare} (upto (outs vI vW vT vB L) g (16 * k))))) (fun k acc => ?hb))
  case hb =>
    refine (trip9 (d := d) hI k acc).trans (wp_mono _ _ _ ?_)
    intro _
    rw [show 16 * k.val + 16 = 16 * (k.val + 1) by omega]
  isplitl [H]
  · rw [upto_zero]; iexact H
  iintro %acc H
  iapply Hk
  rw [show 16 * Scf.trips k1_t9_loop.lb k1_t9_loop.ub k1_t9_loop.st = 16 * 32 from rfl, upto_all]
  iexact H

end Cert.Proof

end
-- ==== Proof.Gathers.lean ====
/-
  The gathers of the table over stretches of the list, and the copies of the tail table, the bias and the results.
-/
module

public import proofs.«01_k».proof.Proof.Words
public import proofs.«01_k».proof.Proof.Waves
public import proofs.«01_k».proof.Proof.Access

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable {d : Dev nD} {L : grid1.Coords} {vI : S26x16384.Idx → BitVec 32}

variable {vW : S2599936.Idx → F .f32}

/-! ## What a gather leaves in its stretch of the gathered words -/

/-- The whole table as the streams name it. -/
abbrev tabA : Memref sig .scVector .hbm S2599936 .f32 :=
  wV.slice (Rect.unit (s := S2599936) ![0] S2599936.size inb_S2599936_S2599936_0) (fun _ => rfl)

/-- A gather's source is the whole flat table. -/
theorem set_tabA : (tabA).view.set = (Finset.univ : Finset S2599936.Idx) := by
  ext x
  show x ∈ ((View.whole main_v1_scv).slice (Rect.unit (s := S2599936) ![0] S2599936.size inb_S2599936_S2599936_0)).set ↔ _
  rw [View.set_slice_whole, mem_unit1 rfl]
  have hx : (x 0).val < 2599936 := (x 0).isLt
  exact ⟨fun _ => Finset.mem_univ _, fun _ => ⟨Nat.zero_le _, by show _ < 0 + 2599936; omega⟩⟩

/-- Reading a gather's source gives the flat table. -/
theorem read_tabA (g : S2599936.Idx → F .f32) : (tabA).view.read (Elt F) g = g := by
  funext x
  refine (View.read_apply _ _).trans ((cast_eq _ _).trans ?_)
  congr 1
  funext a; apply Fin.ext; fin_cases a
  show 0 + 1 * (x 0).val = (x 0).val; omega

/-- A stretch of `n` words of the list, read from position `o`. -/
theorem read_idx {n o : ℕ} {off : Fin 1 → ℕ} (ho : off = ![o]) (inb) (hs) (g : S13312.Idx → BitVec 32) (y : (⟨1, ![n]⟩ : Shape).Idx) (hn : o + n ≤ 13312) :
    (idxM.slice (Rect.unit (s := S13312) off (⟨1, ![n]⟩ : Shape).size inb) hs).view.read (Elt F) g y = g (ixL (o + (y 0).val)) := by
  subst ho
  have hy : (y 0).val < n := (y 0).isLt
  refine (View.read_apply _ _).trans ((cast_eq _ _).trans ?_)
  congr 1
  funext a; apply Fin.ext; fin_cases a
  show o + 1 * (y 0).val = (o + (y 0).val) % 13312
  omega

/-- A word of the adjusted list, as a number, is the clamped position of the staged index. -/
theorem adj_toNat {L : grid1.Coords} (x : S13312.Idx) : (adj vI L x).toNat = posN (rawN vI L (x 0).val) ((x 0).val / 512) := toNat_pos _ _

/-- The words a gather leaves: the table's at the list's positions. -/
theorem write_gat {n o : ℕ} {off : Fin 1 → ℕ} (ho : off = ![o]) (inb) (inb') (hs) (hs') (hn : o + n ≤ 13312)
    (hg : S2599936.Gathers 0 ⟨1, ![n]⟩) (hne : (⟨1, ![n]⟩ : Shape).numel = (⟨1, ![n]⟩ : Shape).size hg.axis')
    (g : S13312.Idx → F .f32)
    (hin : ∀ x, (((idxM.slice (Rect.unit (s := S13312) off (⟨1, ![n]⟩ : Shape).size inb') hs').view.read (Elt F) (adj vI L)) x).toNat < S2599936.size hg.axis)
    (x : S13312.Idx) (hx : x ∈ seg o (o + n)) :
    (valM.slice (Rect.unit (s := S13312) off (⟨1, ![n]⟩ : Shape).size inb) hs).view.write (Elt F) g
        (SparseCore.gatherPayload hg ((tabA).view.read (Elt F) vW)
          (SparseCore.rows ((idxM.slice (Rect.unit (s := S13312) off (⟨1, ![n]⟩ : Shape).size inb') hs').view.read (Elt F) (adj vI L)) hne hin)) Finset.univ x
      = gat vI vW L x := by
  have ho' := ho
  subst ho
  rw [mem_seg] at hx
  have hm : x = (valM.slice (Rect.unit (s := S13312) ![o] (⟨1, ![n]⟩ : Shape).size inb) hs).view.emb (fun | 0 => ⟨(x 0).val - o, by show _ < n; omega⟩) := by
    funext a; apply Fin.ext; fin_cases a
    show (x 0).val = o + 1 * ((x 0).val - o); omega
  conv_lhs => rw [hm]
  refine (View.write_emb_of_mem _ _ (Finset.mem_univ _)).trans ((cast_eq _ _).trans ?_)
  unfold SparseCore.gatherPayload
  rw [read_tabA]
  unfold gat gatN
  congr 1
  funext a; apply Fin.ext; fin_cases a
  rw [show (⟨0, by decide⟩ : Fin S2599936.rank) = hg.axis from Fin.ext rfl, Shape.Gathers.idx_axis]
  unfold SparseCore.rows
  have hk : ∀ kk : Fin (⟨1, ![n]⟩ : Shape).numel, kk.val = (x 0).val - o →
      ((idxM.slice (Rect.unit (s := S13312) ![o] (⟨1, ![n]⟩ : Shape).size inb') hs').view.read (Elt F) (adj vI L) ((⟨1, ![n]⟩ : Shape).rowMajor.symm kk)).toNat
        = posN (rawN vI L (x 0).val) ((x 0).val / 512) := by
    intro kk hkk
    have h0 : (((⟨1, ![n]⟩ : Shape).rowMajor.symm kk) 0).val = kk.val := by
      rw [← Shape.rowMajor_val_one, Equiv.apply_symm_apply]
    rw [read_idx rfl inb' _ _ _ hn, adj_toNat]
    have hx0 : (x 0).val < 13312 := (x 0).isLt
    have he : ((ixL (o + (((⟨1, ![n]⟩ : Shape).rowMajor.symm kk) 0).val)) 0).val = (x 0).val := by
      show (o + (((⟨1, ![n]⟩ : Shape).rowMajor.symm kk) 0).val) % 13312 = _
      rw [h0, hkk]; omega
    rw [he]
  refine (hk _ rfl).trans ?_
  exact (Nat.mod_eq_of_lt (posN_lt _ _)).symm

/-! ## Gathers issued and waited for -/

/-- What a gather over the list's words from `lo` to `hi` delivers. -/
def GatR (d : Dev nD) (L : grid1.Coords) (vI : S26x16384.Idx → BitVec 32) (vW : S2599936.Idx → F .f32) (lo hi : ℕ) (q : PosShare TreeShare) : sProp 𝕄 :=
  iprop(((thr d L).loc cc1_scratch1 ↦[seg lo hi]{fullShare} (gat vI vW L))
    ∗ ((thr d L).loc main_v1_scv ↦[Finset.univ]{q} vW)
    ∗ ((thr d L).loc cc1_scratch0 ↦[seg lo hi]{fullShare} (adj vI L)))

/-- What one gather of `n` words counts on its semaphore. -/
abbrev credG (n : ℕ) : ℕ := sig.dmaCredit .scVector (Kind.scVector.table .vmem) (valM).view.buf ⟨1, ![n]⟩ .f32

/-- A gather over the list's words from `lo` to `hi` in flight on `sem`. -/
def GatFl (d : Dev nD) (L : grid1.Coords) (vI : S26x16384.Idx → BitVec 32) (vW : S2599936.Idx → F .f32) (sem : DmaSem sig) (lo hi : ℕ) (q : PosShare TreeShare) : sProp 𝕄 :=
  Transfers.Flight (EC (F := F)) (thr d L) (.dma sem) (default : HIx 1) (credG (hi - lo)) (GatR d L vI vW lo hi q)

/-- Issuing a gather over `n` words of the list from position `o`. -/
theorem gather_issue {n o : ℕ} (hi : ℕ) (hhi : hi = o + n) {off : Fin 1 → ℕ} (ho : off = ![o]) (hn0 : 0 < n) (hn : hi ≤ 13312) {sem : DmaSem sig} {q : PosShare TreeShare} {g : S13312.Idx → F .f32}
    {hg : S2599936.Gathers 0 ⟨1, ![n]⟩} {inb inb'} {hne hsrc he hsp hr} {Q : PUnit → sProp 𝕄} :
    iprop(((thr d L).loc cc1_scratch1 ↦[seg o hi]{fullShare} g)
        ∗ ((thr d L).loc main_v1_scv ↦[Finset.univ]{q} vW)
        ∗ ((thr d L).loc cc1_scratch0 ↦[seg o hi]{fullShare} (adj vI L))
        ∗ semVal (thr d L, .dma sem) 0)
      ⊢ iprop((GatFl d L vI vW sem o hi q -∗ Q ⟨⟩)
          -∗ wp (M := 𝕄) frame (wpE (defs₀ (F := F)) 𝒱₀ (thr d L) none) Set.univ
            (SparseCore.enqueueIndirectGather rfl tabA
              (valM.slice (Rect.unit (s := S13312) off (⟨1, ![n]⟩ : Shape).size inb) (fun _ => rfl)) hg
              (idxM.slice (Rect.unit (s := S13312) off (⟨1, ![n]⟩ : Shape).size inb') (fun _ => rfl)) hne sem hsrc he hsp hr) Q) := by
  subst hhi
  iintro ⟨HV, HW, HI, Hs⟩ Hk
  have hin : ∀ x, (((idxM.slice (Rect.unit (s := S13312) off (⟨1, ![n]⟩ : Shape).size inb') (fun _ => rfl)).view.read (Elt F) (adj vI L)) x).toNat < S2599936.size hg.axis := by
    intro x
    rw [read_idx ho inb' _ _ x hn, adj_toNat]
    exact posN_lt _ _
  rw [← bind_pure (SparseCore.enqueueIndirectGather _ _ _ _ _ _ _ _ _ _ _)]
  iapply (SparseCore.wp_indirectGatherLocal (EC (F := F)) 𝒱₀ (thr d L) none (hg := hg) (default : HIx 1) (credG n)
    (dst := valM.slice (Rect.unit (s := S13312) off (⟨1, ![n]⟩ : Shape).size inb) (fun _ => rfl)) (q := q) (qo := fullShare) (fs := vW) (fd := g) (fo := adj vI L)
    (SparseCore.sum_rowCredit_eq_dmaCredit _ _ (fun _ => rfl)) (by simpa [Shape.numel] using hn0) hin) $$ [HV HW HI Hs]
  · rw [set_tabA, set_val ho, set_idx ho]
    isplitl [HW]; · iexact HW
    isplitl [HV]; · iexact HV
    isplitl [HI]; · iexact HI
    iexact Hs
  iintro Hfl
  rw [wp_pure]; imodintro
  iapply Hk
  unfold GatFl
  rw [show o + n - o = n by omega]
  iapply (flight_mono ?hm) $$ Hfl
  case hm =>
    rw [set_tabA, set_val ho, set_idx ho]
    unfold GatR
    iintro ⟨HV, HW, HI⟩
    isplitl [HV]
    · iapply (Entails.of_eq (pointsTo_congr ?_)) $$ HV
      intro x hx
      exact write_gat ho inb inb' _ _ hn hg hne g hin x hx
    isplitl [HW]; · iexact HW
    iexact HI

/-- Waiting for a gather. -/
theorem gather_wait {n lo hi : ℕ} (hn : hi - lo = n) {sem : DmaSem sig} {q : PosShare TreeShare} {O : CellTallies nD τ sig (HIx 1)} {W : Waits sig (HIx 1)}
    {off : Fin 1 → ℕ} {inb hsrc hdst} {Q : PUnit → sProp 𝕄} :
    iprop(GatFl d L vI vW sem lo hi q ∗ OW d L O W)
      ⊢ iprop((iprop(GatR d L vI vW lo hi q ∗ semVal (thr d L, .dma sem) 0 ∗ OW d L O W) -∗ Q ⟨⟩)
          -∗ wp (M := 𝕄) frame (wpE (defs₀ (F := F)) 𝒱₀ (thr d L) none) Set.univ
            (SparseCore.waitIndirectGather sem tabA (valM.slice (Rect.unit (s := S13312) off (⟨1, ![n]⟩ : Shape).size inb) (fun _ => rfl)) hsrc hdst) Q) := by
  subst hn
  unfold GatFl OW SparseCore.waitIndirectGather
  iintro ⟨Hfl, #Hmw, %W', %hW, HO⟩ Hk
  iapply (Transfers.wp_waitLocalO (EC (F := F)) 𝒱₀ (thr d L) none (default : HIx 1) (N := credG (hi - lo))
    (dstw := valM.slice (Rect.unit (s := S13312) off (⟨1, ![hi - lo]⟩ : Shape).size inb) (fun _ => rfl)) rfl) $$ [Hfl HO]
  · isplitl [Hfl]; · iexact Hfl
    isplitl [HO]; · iexact HO
    iapply (Transfers.MayWaits.elim (SemLoc.dma sem)) $$ Hmw
  iintro ⟨HD, Hs, HO⟩
  rw [wp_ret]; imodintro
  iapply Hk
  isplitl [HD]; · iexact HD
  isplitl [Hs]; · iexact Hs
  isplitr; · iexact Hmw
  iexists _; isplitr
  swap; · iexact HO
  ipureintro; intro p hp
  rcases Finset.mem_insert.mp hp with hp | hp
  · exact .inr (hp ▸ rfl)
  · exact hW p hp

/-! ## A copy in flight -/

/-- Waiting for a copy. -/
theorem copy_wait {sem : DmaSem sig} {O : CellTallies nD τ sig (HIx 1)} {W : Waits sig (HIx 1)} {N : ℕ} {A : sProp 𝕄}
    {sp sp' : Space} {s s' : Shape} {e e' : EltTy} {src : Memref sig .scVector sp s e} {dst : Memref sig .scVector sp' s' e'} (hN : dst.view.dmaCredit = N) {hsrc hdst} {Q : PUnit → sProp 𝕄} :
    iprop(Transfers.Flight (EC (F := F)) (thr d L) (.dma sem) (default : HIx 1) N A ∗ OW d L O W)
      ⊢ iprop((iprop(A ∗ semVal (thr d L, .dma sem) 0 ∗ OW d L O W) -∗ Q ⟨⟩)
          -∗ wp (M := 𝕄) frame (wpE (defs₀ (F := F)) 𝒱₀ (thr d L) none) Set.univ (Prog.lift (.waitDma2 sem src dst hsrc hdst)) Q) := by
  unfold OW
  iintro ⟨Hfl, #Hmw, %W', %hW, HO⟩ Hk
  iapply (Transfers.wp_waitLocalO (EC (F := F)) 𝒱₀ (thr d L) none (default : HIx 1) (N := N) (dstw := dst) hN) $$ [Hfl HO]
  · isplitl [Hfl]; · iexact Hfl
    isplitl [HO]; · iexact HO
    iapply (Transfers.MayWaits.elim (SemLoc.dma sem)) $$ Hmw
  iintro ⟨HD, Hs, HO⟩
  rw [wp_ret]; imodintro
  iapply Hk
  isplitl [HD]; · iexact HD
  isplitl [Hs]; · iexact Hs
  isplitr; · iexact Hmw
  iexists _; isplitr
  swap; · iexact HO
  ipureintro; intro p hp
  rcases Finset.mem_insert.mp hp with hp | hp
  · exact .inr (hp ▸ rfl)
  · exact hW p hp

/-- Issuing the copy of the tail table. -/
theorem copy_tail {sem : DmaSem sig} {q : PosShare TreeShare} {v g : S64.Idx → F .f32} {hsrc hdst hsem} {Q : PUnit → sProp 𝕄} :
    iprop(((thr d L).loc main_v3_scv ↦[Finset.univ]{q} v) ∗ ((thr d L).loc cc1_scratch3 ↦[Finset.univ]{fullShare} g) ∗ semVal (thr d L, .dma sem) 0)
      ⊢ iprop((Transfers.Flight (EC (F := F)) (thr d L) (.dma sem) (default : HIx 1) (wtM).view.dmaCredit
              iprop(((thr d L).loc cc1_scratch3 ↦[Finset.univ]{fullShare} v) ∗ ((thr d L).loc main_v3_scv ↦[Finset.univ]{q} v)) -∗ Q ⟨⟩)
          -∗ wp (M := 𝕄) frame (wpE (defs₀ (F := F)) 𝒱₀ (thr d L) none) Set.univ (Prog.lift (.enqueueDma tV (.here wtM) (.dma sem) hsrc hdst hsem)) Q) := by
  iintro ⟨Hs, Hd, Hv⟩ Hk
  have h1 : (tV).view.set = (Finset.univ : Finset S64.Idx) := View.set_whole _
  iapply (Transfers.wp_dmaLocal (EC (F := F)) 𝒱₀ (thr d L) none (src := tV) (dst := wtM) (Sd := Finset.univ) (q := q) (fs := v) (fd := g)
    (default : HIx 1) (wtM).view.dmaCredit rfl (by decide) (Finset.subset_univ _)) $$ [Hs Hd Hv]
  · rw [h1]
    isplitl [Hs]; · iexact Hs
    isplitl [Hd]; · iexact Hd
    iexact Hv
  iintro Hfl
  rw [wp_ret]; imodintro
  iapply Hk
  iapply (flight_mono ?hm) $$ Hfl
  case hm =>
    rw [h1]
    iintro ⟨Hd, Hs⟩
    isplitl [Hd]
    · iapply (Entails.of_eq (pointsTo_congr ?_)) $$ Hd
      intro x _
      exact congrFun (View.write_whole_univ _ _ _) x
    · iexact Hs

/-- Issuing the copy of the bias. -/
theorem copy_bias {sem : DmaSem sig} {q : PosShare TreeShare} {v g : S16.Idx → F .f32} {hsrc hdst hsem} {Q : PUnit → sProp 𝕄} :
    iprop(((thr d L).loc main_v4_scv ↦[Finset.univ]{q} v) ∗ ((thr d L).loc cc1_scratch6 ↦[Finset.univ]{fullShare} g) ∗ semVal (thr d L, .dma sem) 0)
      ⊢ iprop((Transfers.Flight (EC (F := F)) (thr d L) (.dma sem) (default : HIx 1) (biM).view.dmaCredit
              iprop(((thr d L).loc cc1_scratch6 ↦[Finset.univ]{fullShare} v) ∗ ((thr d L).loc main_v4_scv ↦[Finset.univ]{q} v)) -∗ Q ⟨⟩)
          -∗ wp (M := 𝕄) frame (wpE (defs₀ (F := F)) 𝒱₀ (thr d L) none) Set.univ (Prog.lift (.enqueueDma bV (.here biM) (.dma sem) hsrc hdst hsem)) Q) := by
  iintro ⟨Hs, Hd, Hv⟩ Hk
  have h1 : (bV).view.set = (Finset.univ : Finset S16.Idx) := View.set_whole _
  iapply (Transfers.wp_dmaLocal (EC (F := F)) 𝒱₀ (thr d L) none (src := bV) (dst := biM) (Sd := Finset.univ) (q := q) (fs := v) (fd := g)
    (default : HIx 1) (biM).view.dmaCredit rfl (by decide) (Finset.subset_univ _)) $$ [Hs Hd Hv]
  · rw [h1]
    isplitl [Hs]; · iexact Hs
    isplitl [Hd]; · iexact Hd
    iexact Hv
  iintro Hfl
  rw [wp_ret]; imodintro
  iapply Hk
  iapply (flight_mono ?hm) $$ Hfl
  case hm =>
    rw [h1]
    iintro ⟨Hd, Hs⟩
    isplitl [Hd]
    · iapply (Entails.of_eq (pointsTo_congr ?_)) $$ Hd
      intro x _
      exact congrFun (View.write_whole_univ _ _ _) x
    · iexact Hs

/-- The tile's rows of the result as the last copy names them. -/
abbrev oRow (L : grid1.Coords) (inb : ∀ a, (k1_off42 L) a + S512.size a ≤ S16384.size a) : Memref sig .scVector .hbm S512 .f32 := oV.slice (Rect.unit (s := S16384) (k1_off42 L) S512.size inb) (fun _ => rfl)

/-- The result's slice that the tile writes is its rows. -/
theorem set_oRow (inb) : (oRow L inb).view.set = row L := by
  ext x
  show x ∈ ((View.whole main_v6_scv).slice (Rect.unit (s := S16384) (k1_off42 L) S512.size inb)).set ↔ _
  rw [View.set_slice_whole, mem_unit1 (k1_off42_eq L), mem_row]; rfl

/-- Issuing the copy of the results to the tile's rows. -/
theorem copy_out {sem : DmaSem sig} {w : S512.Idx → F .f32} {g r : S16384.Idx → F .f32} (hr : ∀ x ∈ row L, r x = w (ixB ((x 0).val - rb L)))
    {inb hsrc hdst hsem} {Q : PUnit → sProp 𝕄} :
    iprop(((thr d L).loc cc1_scratch5 ↦[Finset.univ]{fullShare} w) ∗ ((thr d L).loc main_v6_scv ↦[row L]{fullShare} g) ∗ semVal (thr d L, .dma sem) 0)
      ⊢ iprop((Transfers.Flight (EC (F := F)) (thr d L) (.dma sem) (default : HIx 1) (oRow L inb).view.dmaCredit
              iprop(((thr d L).loc main_v6_scv ↦[row L]{fullShare} r) ∗ ((thr d L).loc cc1_scratch5 ↦[Finset.univ]{fullShare} w)) -∗ Q ⟨⟩)
          -∗ wp (M := 𝕄) frame (wpE (defs₀ (F := F)) 𝒱₀ (thr d L) none) Set.univ (Prog.lift (.enqueueDma outM (.here (oRow L inb)) (.dma sem) hsrc hdst hsem)) Q) := by
  iintro ⟨Hs, Hd, Hv⟩ Hk
  have h1 : (outM).view.set = (Finset.univ : Finset S512.Idx) := View.set_whole _
  iapply (Transfers.wp_dmaLocal (EC (F := F)) 𝒱₀ (thr d L) none (src := outM) (dst := oRow L inb) (Sd := row L) (q := fullShare) (fs := w) (fd := g)
    (default : HIx 1) (oRow L inb).view.dmaCredit rfl (View.dmaCredit_pos _ (by decide)) (set_oRow inb).subset) $$ [Hs Hd Hv]
  · rw [h1]
    isplitl [Hs]; · iexact Hs
    isplitl [Hd]; · iexact Hd
    iexact Hv
  iintro Hfl
  rw [wp_ret]; imodintro
  iapply Hk
  iapply (flight_mono ?hm) $$ Hfl
  case hm =>
    rw [h1]
    iintro ⟨Hd, Hs⟩
    isplitl [Hd]
    · iapply (Entails.of_eq (pointsTo_congr ?_)) $$ Hd
      intro x hx
      rw [hr x hx]
      have hx' := mem_row.1 hx
      have hoff : k1_off42 L 0 = rb L := by rw [k1_off42_eq]; rfl
      have hm : x = (oRow L inb).view.emb (ixB ((x 0).val - rb L)) := by
        funext a; apply Fin.ext; fin_cases a
        show (x 0).val = k1_off42 L 0 + 1 * (((x 0).val - rb L) % 512)
        rw [hoff]; omega
      conv_lhs => rw [hm]
      refine (View.write_emb_of_mem _ _ (Finset.mem_univ _)).trans ((cast_eq _ _).trans ?_)
      rfl
    · iexact Hs

end Cert.Proof

end
-- ==== Proof.Parts.lean ====
/-
  The parts of the kernel body, in order.
-/
module

public import proofs.«01_k».proof.Proof.SumLoops
public import proofs.«01_k».proof.Proof.Gathers

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable {d : Dev nD} {L : grid1.Coords} {vI : S26x16384.Idx → BitVec 32}

/-! ## Stretches of the list before and after they become positions -/

theorem idx_start (lo hi : ℕ) :
    ((thr d L).loc cc1_scratch0 ↦[seg lo hi]{fullShare} (raw vI L) : sProp 𝕄) ⊢ ((thr d L).loc cc1_scratch0 ↦[seg lo hi]{fullShare} (mix vI L lo)) :=
  Entails.of_eq (pointsTo_congr fun _ hx => mix_start hx)

/-- A stretch adjusted to its end is held as the adjusted list. -/
theorem idx_end (lo hi : ℕ) :
    ((thr d L).loc cc1_scratch0 ↦[seg lo hi]{fullShare} (mix vI L hi) : sProp 𝕄) ⊢ ((thr d L).loc cc1_scratch0 ↦[seg lo hi]{fullShare} (adj vI L)) :=
  Entails.of_eq (pointsTo_congr fun _ hx => mix_end hx)

/-- The tile whose rows hold result row `j`. -/
def tileOf (j : ℕ) : grid1.Coords := fun | 0 => ⟨j / 512 % 2, Nat.mod_lt _ (by decide)⟩ | 1 => ⟨j / 1024 % 16, Nat.mod_lt _ (by decide)⟩

/-- The kernel's result. -/
def resV (vI : S26x16384.Idx → BitVec 32) (vW : S2599936.Idx → F .f32) (vT : S64.Idx → F .f32) (vB : S16.Idx → F .f32) : S16384.Idx → F .f32 :=
  fun x => outN vI vW vT vB (tileOf (x 0).val) ((x 0).val % 512)

/-- The tile that a row belongs to. -/
theorem tileOf_row {x : S16384.Idx} (hx : x ∈ row L) : tileOf (x 0).val = L := by
  have h1 : (L 1).val < 16 := (L 1).isLt
  have h0 : (L 0).val < 2 := (L 0).isLt
  rw [mem_row] at hx; unfold rb at hx
  funext a; apply Fin.ext; fin_cases a
  · show (x 0).val / 512 % 2 = (L 0).val; omega
  · show (x 0).val / 1024 % 16 = (L 1).val; omega

/-- On a tile's rows the kernel's result is the tile's. -/
theorem resV_row {vW : S2599936.Idx → F .f32} {vT : S64.Idx → F .f32} {vB : S16.Idx → F .f32} {x : S16384.Idx} (hx : x ∈ row L) :
    resV vI vW vT vB x = outs vI vW vT vB L (ixB ((x 0).val - rb L)) := by
  unfold resV outs
  rw [tileOf_row hx]
  rw [mem_row] at hx
  congr 1
  show (x 0).val % 512 = ((x 0).val - rb L) % 512
  unfold rb at *; omega

/-! ## The parts -/

/-- Fields 0 to 4 are issued. -/
theorem part2 {g : S13312.Idx → BitVec 32} {Q : PUnit → sProp 𝕄} :
    iprop(StageIn d L vI cc1_scratch7.sem 0 7 0 g)
      ⊢ iprop((iprop(StageIn d L vI cc1_scratch7.sem 0 7 5 g) -∗ Q ⟨⟩)
          -∗ wp (M := 𝕄) frame (wpE (defs₀ (F := F)) 𝒱₀ (thr d L) none) Set.univ (k1_part2 (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2) Q) := by
  rw [k1_part2_eq_skeleton]; unfold k1_part2_skel
  simp only [wp_bind]
  iintro HA Hk
  iapply (stage_issue (d := d) (L := L) 0 (by decide) rfl (by decide) (k1_off1_eq L) rfl) $$ HA; iintro HA
  iapply (stage_issue (d := d) (L := L) 1 (by decide) rfl (by decide) (k1_off2_eq L) rfl) $$ HA; iintro HA
  iapply (stage_issue (d := d) (L := L) 2 (by decide) rfl (by decide) (k1_off3_eq L) rfl) $$ HA; iintro HA
  iapply (stage_issue (d := d) (L := L) 3 (by decide) rfl (by decide) (k1_off4_eq L) rfl) $$ HA; iintro HA
  iapply (stage_issue (d := d) (L := L) 4 (by decide) rfl (by decide) (k1_off5_eq L) rfl) $$ HA; iintro HA
  rw [wp_pure]; imodintro
  iapply Hk
  iexact HA

/-- Fields 5 to 10 are issued. -/
theorem part3 {g g' : S13312.Idx → BitVec 32} {Q : PUnit → sProp 𝕄} :
    iprop(StageIn d L vI cc1_scratch7.sem 0 7 5 g
        ∗ StageIn d L vI cc1_scratch8.sem 7 6 0 g')
      ⊢ iprop((iprop(StageIn d L vI cc1_scratch7.sem 0 7 7 g
        ∗ StageIn d L vI cc1_scratch8.sem 7 6 4 g') -∗ Q ⟨⟩)
          -∗ wp (M := 𝕄) frame (wpE (defs₀ (F := F)) 𝒱₀ (thr d L) none) Set.univ (k1_part3 (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2) Q) := by
  rw [k1_part3_eq_skeleton]; unfold k1_part3_skel
  simp only [wp_bind]
  iintro ⟨HA, HB⟩ Hk
  iapply (stage_issue (d := d) (L := L) 5 (by decide) rfl (by decide) (k1_off6_eq L) rfl) $$ HA; iintro HA
  iapply (stage_issue (d := d) (L := L) 6 (by decide) rfl (by decide) (k1_off7_eq L) rfl) $$ HA; iintro HA
  iapply (stage_issue (d := d) (L := L) 7 (by decide) rfl (by decide) (k1_off8_eq L) rfl) $$ HB; iintro HB
  iapply (stage_issue (d := d) (L := L) 8 (by decide) rfl (by decide) (k1_off9_eq L) rfl) $$ HB; iintro HB
  iapply (stage_issue (d := d) (L := L) 9 (by decide) rfl (by decide) (k1_off10_eq L) rfl) $$ HB; iintro HB
  iapply (stage_issue (d := d) (L := L) 10 (by decide) rfl (by decide) (k1_off11_eq L) rfl) $$ HB; iintro HB
  rw [wp_pure]; imodintro
  iapply Hk
  isplitl [HA]; · iexact HA
  iexact HB

/-- Fields 11 to 16 are issued. -/
theorem part4 {g g' : S13312.Idx → BitVec 32} {Q : PUnit → sProp 𝕄} :
    iprop(StageIn d L vI cc1_scratch8.sem 7 6 4 g
        ∗ StageIn d L vI cc1_scratch9.sem 13 7 0 g')
      ⊢ iprop((iprop(StageIn d L vI cc1_scratch8.sem 7 6 6 g
        ∗ StageIn d L vI cc1_scratch9.sem 13 7 4 g') -∗ Q ⟨⟩)
          -∗ wp (M := 𝕄) frame (wpE (defs₀ (F := F)) 𝒱₀ (thr d L) none) Set.univ (k1_part4 (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2) Q) := by
  rw [k1_part4_eq_skeleton]; unfold k1_part4_skel
  simp only [wp_bind]
  iintro ⟨HA, HB⟩ Hk
  iapply (stage_issue (d := d) (L := L) 11 (by decide) rfl (by decide) (k1_off12_eq L) rfl) $$ HA; iintro HA
  iapply (stage_issue (d := d) (L := L) 12 (by decide) rfl (by decide) (k1_off13_eq L) rfl) $$ HA; iintro HA
  iapply (stage_issue (d := d) (L := L) 13 (by decide) rfl (by decide) (k1_off14_eq L) rfl) $$ HB; iintro HB
  iapply (stage_issue (d := d) (L := L) 14 (by decide) rfl (by decide) (k1_off15_eq L) rfl) $$ HB; iintro HB
  iapply (stage_issue (d := d) (L := L) 15 (by decide) rfl (by decide) (k1_off16_eq L) rfl) $$ HB; iintro HB
  iapply (stage_issue (d := d) (L := L) 16 (by decide) rfl (by decide) (k1_off17_eq L) rfl) $$ HB; iintro HB
  rw [wp_pure]; imodintro
  iapply Hk
  isplitl [HA]; · iexact HA
  iexact HB

/-- Fields 17 to 22 are issued. -/
theorem part5 {g g' : S13312.Idx → BitVec 32} {Q : PUnit → sProp 𝕄} :
    iprop(StageIn d L vI cc1_scratch9.sem 13 7 4 g
        ∗ StageIn d L vI cc1_scratch10.sem 20 6 0 g')
      ⊢ iprop((iprop(StageIn d L vI cc1_scratch9.sem 13 7 7 g
        ∗ StageIn d L vI cc1_scratch10.sem 20 6 3 g') -∗ Q ⟨⟩)
          -∗ wp (M := 𝕄) frame (wpE (defs₀ (F := F)) 𝒱₀ (thr d L) none) Set.univ (k1_part5 (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2) Q) := by
  rw [k1_part5_eq_skeleton]; unfold k1_part5_skel
  simp only [wp_bind]
  iintro ⟨HA, HB⟩ Hk
  iapply (stage_issue (d := d) (L := L) 17 (by decide) rfl (by decide) (k1_off18_eq L) rfl) $$ HA; iintro HA
  iapply (stage_issue (d := d) (L := L) 18 (by decide) rfl (by decide) (k1_off19_eq L) rfl) $$ HA; iintro HA
  iapply (stage_issue (d := d) (L := L) 19 (by decide) rfl (by decide) (k1_off20_eq L) rfl) $$ HA; iintro HA
  iapply (stage_issue (d := d) (L := L) 20 (by decide) rfl (by decide) (k1_off21_eq L) rfl) $$ HB; iintro HB
  iapply (stage_issue (d := d) (L := L) 21 (by decide) rfl (by decide) (k1_off22_eq L) rfl) $$ HB; iintro HB
  iapply (stage_issue (d := d) (L := L) 22 (by decide) rfl (by decide) (k1_off23_eq L) rfl) $$ HB; iintro HB
  rw [wp_pure]; imodintro
  iapply Hk
  isplitl [HA]; · iexact HA
  iexact HB

/-- Fields 23 to 25 are issued and fields 0 to 2 waited for. -/
theorem part6 {g : S13312.Idx → BitVec 32} {O : CellTallies nD τ sig (HIx 1)} {W : Waits sig (HIx 1)} {Q : IVec S16 32 → sProp 𝕄} :
    iprop(StageIn d L vI cc1_scratch10.sem 20 6 3 g
        ∗ StageMid d L vI cc1_scratch7.sem 0 7 0
        ∗ OW d L O W)
      ⊢ iprop((iprop(StageIn d L vI cc1_scratch10.sem 20 6 6 g
        ∗ StageMid d L vI cc1_scratch7.sem 0 7 3
        ∗ OW d L O W) -∗ Q k1_pay3)
          -∗ wp (M := 𝕄) frame (wpE (defs₀ (F := F)) 𝒱₀ (thr d L) none) Set.univ (k1_part6 (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2) Q) := by
  rw [k1_part6_eq_skeleton]; unfold k1_part6_skel
  simp only [wp_bind]
  iintro ⟨HA, HM, HO⟩ Hk
  iapply (stage_issue (d := d) (L := L) 23 (by decide) rfl (by decide) (k1_off24_eq L) rfl) $$ HA; iintro HA
  iapply (stage_issue (d := d) (L := L) 24 (by decide) rfl (by decide) (k1_off25_eq L) rfl) $$ HA; iintro HA
  iapply (stage_issue (d := d) (L := L) 25 (by decide) rfl (by decide) (k1_off26_eq L) rfl) $$ HA; iintro HA
  iapply (stage_wait (d := d) (L := L) (vI := vI) (sem := cc1_scratch7.sem) (f0 := 0) (n := 7) (u := 0) (by decide)) $$ [HM HO]
  · isplitl [HM]; · iexact HM
    iexact HO
  iintro ⟨HM, HO⟩
  iapply (stage_wait (d := d) (L := L) (vI := vI) (sem := cc1_scratch7.sem) (f0 := 0) (n := 7) (u := 1) (by decide)) $$ [HM HO]
  · isplitl [HM]; · iexact HM
    iexact HO
  iintro ⟨HM, HO⟩
  iapply (stage_wait (d := d) (L := L) (vI := vI) (sem := cc1_scratch7.sem) (f0 := 0) (n := 7) (u := 2) (by decide)) $$ [HM HO]
  · isplitl [HM]; · iexact HM
    iexact HO
  iintro ⟨HM, HO⟩
  rw [wp_pure]; imodintro
  iapply Hk
  isplitl [HA]; · iexact HA
  isplitl [HM]; · iexact HM
  iexact HO

/-- Fields 7 to 12 are waited for. -/
theorem part8 {O : CellTallies nD τ sig (HIx 1)} {W : Waits sig (HIx 1)} {Q : (Σ' (_ : BitVec 32), BitVec 32) → sProp 𝕄} :
    iprop(StageMid d L vI cc1_scratch8.sem 7 6 0
        ∗ OW d L O W)
      ⊢ iprop((iprop(((thr d L).loc cc1_scratch0 ↦[seg 3584 6656]{fullShare} (raw vI L))
        ∗ ((thr d L).loc main_v5_scv ↦[winS L 7 13]{fullShare} vI)
        ∗ semVal (thr d L, .dma cc1_scratch8.sem) 0
        ∗ OW d L O W) -∗ Q ⟨0#32, 192#32⟩)
          -∗ wp (M := 𝕄) frame (wpE (defs₀ (F := F)) 𝒱₀ (thr d L) none) Set.univ (k1_part8 (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2) Q) := by
  rw [k1_part8_eq_skeleton]; unfold k1_part8_skel
  simp only [wp_bind]
  iintro ⟨HM, HO⟩ Hk
  iapply (stage_wait (d := d) (L := L) (vI := vI) (sem := cc1_scratch8.sem) (f0 := 7) (n := 6) (u := 0) (by decide)) $$ [HM HO]
  · isplitl [HM]; · iexact HM
    iexact HO
  iintro ⟨HM, HO⟩
  iapply (stage_wait (d := d) (L := L) (vI := vI) (sem := cc1_scratch8.sem) (f0 := 7) (n := 6) (u := 1) (by decide)) $$ [HM HO]
  · isplitl [HM]; · iexact HM
    iexact HO
  iintro ⟨HM, HO⟩
  iapply (stage_wait (d := d) (L := L) (vI := vI) (sem := cc1_scratch8.sem) (f0 := 7) (n := 6) (u := 2) (by decide)) $$ [HM HO]
  · isplitl [HM]; · iexact HM
    iexact HO
  iintro ⟨HM, HO⟩
  iapply (stage_wait (d := d) (L := L) (vI := vI) (sem := cc1_scratch8.sem) (f0 := 7) (n := 6) (u := 3) (by decide)) $$ [HM HO]
  · isplitl [HM]; · iexact HM
    iexact HO
  iintro ⟨HM, HO⟩
  iapply (stage_wait (d := d) (L := L) (vI := vI) (sem := cc1_scratch8.sem) (f0 := 7) (n := 6) (u := 4) (by decide)) $$ [HM HO]
  · isplitl [HM]; · iexact HM
    iexact HO
  iintro ⟨HM, HO⟩
  iapply (stage_last (d := d) (L := L) (vI := vI) (sem := cc1_scratch8.sem) (f0 := 7) (n := 6) (u := 5) (by decide)) $$ [HM HO]
  · isplitl [HM]; · iexact HM
    iexact HO
  iintro ⟨HM, HS, HO⟩
  ihave HM' := (Entails.of_eq (wave_eq (F := F) (d := d) (L := L) (vI := vI) 7 6 (raw vI L))) $$ HM
  icases HM' with ⟨HI, HX⟩
  rw [wp_pure]; imodintro
  iapply Hk
  isplitl [HI]; · iexact HI
  isplitl [HX]; · iexact HX
  isplitl [HS]; · iexact HS
  iexact HO

/-- Fields 3 to 6 are waited for, the first wave becomes positions and is gathered, and the tail table and the bias are fetched. -/
theorem part7 (hI : ∀ j, (vI j).toNat < 100000) {vT wt : S64.Idx → F .f32} {vB bi : S16.Idx → F .f32} {qt qb : PosShare TreeShare} {vW : S2599936.Idx → F .f32} {q : PosShare TreeShare} {v : S13312.Idx → F .f32} {O : CellTallies nD τ sig (HIx 1)} {W : Waits sig (HIx 1)} {Q : PUnit → sProp 𝕄} :
    iprop(StageMid d L vI cc1_scratch7.sem 0 7 3
        ∗ ((thr d L).loc cc1_scratch1 ↦[seg 0 3584]{fullShare} (v))
        ∗ ((thr d L).loc main_v1_scv ↦[Finset.univ]{q} vW)
        ∗ semVal (thr d L, .dma cc1_scratch11.sem) 0
        ∗ ((thr d L).loc main_v3_scv ↦[Finset.univ]{qt} vT)
        ∗ ((thr d L).loc cc1_scratch3 ↦[Finset.univ]{fullShare} wt)
        ∗ semVal (thr d L, .dma cc1_scoped0.sem) 0
        ∗ ((thr d L).loc main_v4_scv ↦[Finset.univ]{qb} vB)
        ∗ ((thr d L).loc cc1_scratch6 ↦[Finset.univ]{fullShare} bi)
        ∗ semVal (thr d L, .dma cc1_scoped1.sem) 0
        ∗ OW d L O W)
      ⊢ iprop((iprop(((thr d L).loc main_v5_scv ↦[winS L 0 7]{fullShare} vI)
        ∗ semVal (thr d L, .dma cc1_scratch7.sem) 0
        ∗ GatFl d L vI vW cc1_scratch11.sem 0 3584 q
        ∗ ((thr d L).loc main_v3_scv ↦[Finset.univ]{qt} vT)
        ∗ ((thr d L).loc cc1_scratch3 ↦[Finset.univ]{fullShare} vT)
        ∗ semVal (thr d L, .dma cc1_scoped0.sem) 0
        ∗ ((thr d L).loc main_v4_scv ↦[Finset.univ]{qb} vB)
        ∗ ((thr d L).loc cc1_scratch6 ↦[Finset.univ]{fullShare} vB)
        ∗ semVal (thr d L, .dma cc1_scoped1.sem) 0
        ∗ OW d L O W) -∗ Q ⟨⟩)
          -∗ wp (M := 𝕄) frame (wpE (defs₀ (F := F)) 𝒱₀ (thr d L) none) Set.univ (k1_part7 (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 k1_pay3) Q) := by
  rw [k1_part7_eq_skeleton]; unfold k1_part7_skel
  simp only [wp_bind]
  iintro ⟨HM, HV, HW, HG, HT, Hw, Hs0, HB, Hb, Hs1, HO⟩ Hk
  iapply (stage_wait (d := d) (L := L) (vI := vI) (sem := cc1_scratch7.sem) (f0 := 0) (n := 7) (u := 3) (by decide)) $$ [HM HO]
  · isplitl [HM]; · iexact HM
    iexact HO
  iintro ⟨HM, HO⟩
  iapply (stage_wait (d := d) (L := L) (vI := vI) (sem := cc1_scratch7.sem) (f0 := 0) (n := 7) (u := 4) (by decide)) $$ [HM HO]
  · isplitl [HM]; · iexact HM
    iexact HO
  iintro ⟨HM, HO⟩
  iapply (stage_wait (d := d) (L := L) (vI := vI) (sem := cc1_scratch7.sem) (f0 := 0) (n := 7) (u := 5) (by decide)) $$ [HM HO]
  · isplitl [HM]; · iexact HM
    iexact HO
  iintro ⟨HM, HO⟩
  iapply (stage_last (d := d) (L := L) (vI := vI) (sem := cc1_scratch7.sem) (f0 := 0) (n := 7) (u := 6) (by decide)) $$ [HM HO]
  · isplitl [HM]; · iexact HM
    iexact HO
  iintro ⟨HM, HS, HO⟩
  ihave HM' := (Entails.of_eq (wave_eq (F := F) (d := d) (L := L) (vI := vI) 0 7 (raw vI L))) $$ HM
  icases HM' with ⟨HI, HX⟩
  ihave HI := (idx_start (F := F) (d := d) (L := L) (vI := vI) 0 3584) $$ HI
  iapply (loop1 (d := d) (L := L) hI) $$ HI; iintro HI
  ihave HI := (idx_end (F := F) (d := d) (L := L) (vI := vI) 0 3584) $$ HI
  iapply (gather_issue (d := d) (L := L) (vI := vI) (vW := vW) (q := q) 3584 (by decide) rfl (by decide) (by decide)) $$ [HV HW HI HG]
  · isplitl [HV]; · iexact HV
    isplitl [HW]; · iexact HW
    isplitl [HI]; · iexact HI
    iexact HG
  iintro HG
  iapply (copy_tail (d := d) (L := L)) $$ [HT Hw Hs0]
  · isplitl [HT]; · iexact HT
    isplitl [Hw]; · iexact Hw
    iexact Hs0
  iintro HF
  iapply (copy_wait (d := d) (L := L) (dst := wtM) rfl) $$ [HF HO]
  · isplitl [HF]; · iexact HF
    iexact HO
  iintro ⟨⟨Hw, HT⟩, Hs0, HO⟩
  iapply (copy_bias (d := d) (L := L)) $$ [HB Hb Hs1]
  · isplitl [HB]; · iexact HB
    isplitl [Hb]; · iexact Hb
    iexact Hs1
  iintro HF
  iapply (copy_wait (d := d) (L := L) (dst := biM) rfl) $$ [HF HO]
  · isplitl [HF]; · iexact HF
    iexact HO
  iintro ⟨⟨Hb, HB⟩, Hs1, HO⟩
  rw [wp_pure]; imodintro
  iapply Hk
  isplitl [HX]; · iexact HX
  isplitl [HS]; · iexact HS
  isplitl [HG]; · iexact HG
  isplitl [HT]; · iexact HT
  isplitl [Hw]; · iexact Hw
  isplitl [Hs0]; · iexact Hs0
  isplitl [HB]; · iexact HB
  isplitl [Hb]; · iexact Hb
  isplitl [Hs1]; · iexact Hs1
  iexact HO

/-- The second wave becomes positions and is gathered; fields 13 to 16 are waited for. -/
theorem part9 (hI : ∀ j, (vI j).toNat < 100000) {vW : S2599936.Idx → F .f32} {q : PosShare TreeShare} {v : S13312.Idx → F .f32} {O : CellTallies nD τ sig (HIx 1)} {W : Waits sig (HIx 1)} {Q : PUnit → sProp 𝕄} :
    iprop(((thr d L).loc cc1_scratch0 ↦[seg 3584 6656]{fullShare} (raw vI L))
        ∗ ((thr d L).loc cc1_scratch1 ↦[seg 3584 6656]{fullShare} (v))
        ∗ ((thr d L).loc main_v1_scv ↦[Finset.univ]{q} vW)
        ∗ semVal (thr d L, .dma cc1_scratch12.sem) 0
        ∗ StageMid d L vI cc1_scratch9.sem 13 7 0
        ∗ OW d L O W)
      ⊢ iprop((iprop(GatFl d L vI vW cc1_scratch12.sem 3584 6656 q
        ∗ StageMid d L vI cc1_scratch9.sem 13 7 4
        ∗ OW d L O W) -∗ Q ⟨⟩)
          -∗ wp (M := 𝕄) frame (wpE (defs₀ (F := F)) 𝒱₀ (thr d L) none) Set.univ (k1_part9 (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 k1_pay3 0#32 192#32) Q) := by
  rw [k1_part9_eq_skeleton]; unfold k1_part9_skel
  simp only [wp_bind]
  iintro ⟨HI, HV, HW, HG, HM, HO⟩ Hk
  ihave HI := (idx_start (F := F) (d := d) (L := L) (vI := vI) 3584 6656) $$ HI
  iapply (loop2 (d := d) (L := L) hI) $$ HI; iintro HI
  ihave HI := (idx_end (F := F) (d := d) (L := L) (vI := vI) 3584 6656) $$ HI
  iapply (gather_issue (d := d) (L := L) (vI := vI) (vW := vW) (q := q) 6656 (by decide) rfl (by decide) (by decide)) $$ [HV HW HI HG]
  · isplitl [HV]; · iexact HV
    isplitl [HW]; · iexact HW
    isplitl [HI]; · iexact HI
    iexact HG
  iintro HG
  iapply (stage_wait (d := d) (L := L) (vI := vI) (sem := cc1_scratch9.sem) (f0 := 13) (n := 7) (u := 0) (by decide)) $$ [HM HO]
  · isplitl [HM]; · iexact HM
    iexact HO
  iintro ⟨HM, HO⟩
  iapply (stage_wait (d := d) (L := L) (vI := vI) (sem := cc1_scratch9.sem) (f0 := 13) (n := 7) (u := 1) (by decide)) $$ [HM HO]
  · isplitl [HM]; · iexact HM
    iexact HO
  iintro ⟨HM, HO⟩
  iapply (stage_wait (d := d) (L := L) (vI := vI) (sem := cc1_scratch9.sem) (f0 := 13) (n := 7) (u := 2) (by decide)) $$ [HM HO]
  · isplitl [HM]; · iexact HM
    iexact HO
  iintro ⟨HM, HO⟩
  iapply (stage_wait (d := d) (L := L) (vI := vI) (sem := cc1_scratch9.sem) (f0 := 13) (n := 7) (u := 3) (by decide)) $$ [HM HO]
  · isplitl [HM]; · iexact HM
    iexact HO
  iintro ⟨HM, HO⟩
  rw [wp_pure]; imodintro
  iapply Hk
  isplitl [HG]; · iexact HG
  isplitl [HM]; · iexact HM
  iexact HO

/-- Fields 17 to 19 are waited for, the third wave becomes positions and is gathered; fields 20 and 21 are waited for. -/
theorem part10 (hI : ∀ j, (vI j).toNat < 100000) {vW : S2599936.Idx → F .f32} {q : PosShare TreeShare} {v : S13312.Idx → F .f32} {O : CellTallies nD τ sig (HIx 1)} {W : Waits sig (HIx 1)} {Q : PUnit → sProp 𝕄} :
    iprop(StageMid d L vI cc1_scratch9.sem 13 7 4
        ∗ ((thr d L).loc cc1_scratch1 ↦[seg 6656 10240]{fullShare} (v))
        ∗ ((thr d L).loc main_v1_scv ↦[Finset.univ]{q} vW)
        ∗ semVal (thr d L, .dma cc1_scratch13.sem) 0
        ∗ StageMid d L vI cc1_scratch10.sem 20 6 0
        ∗ OW d L O W)
      ⊢ iprop((iprop(((thr d L).loc main_v5_scv ↦[winS L 13 20]{fullShare} vI)
        ∗ semVal (thr d L, .dma cc1_scratch9.sem) 0
        ∗ GatFl d L vI vW cc1_scratch13.sem 6656 10240 q
        ∗ StageMid d L vI cc1_scratch10.sem 20 6 2
        ∗ OW d L O W) -∗ Q ⟨⟩)
          -∗ wp (M := 𝕄) frame (wpE (defs₀ (F := F)) 𝒱₀ (thr d L) none) Set.univ (k1_part10 (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 k1_pay3) Q) := by
  rw [k1_part10_eq_skeleton]; unfold k1_part10_skel
  simp only [wp_bind]
  iintro ⟨HM, HV, HW, HG, HN, HO⟩ Hk
  iapply (stage_wait (d := d) (L := L) (vI := vI) (sem := cc1_scratch9.sem) (f0 := 13) (n := 7) (u := 4) (by decide)) $$ [HM HO]
  · isplitl [HM]; · iexact HM
    iexact HO
  iintro ⟨HM, HO⟩
  iapply (stage_wait (d := d) (L := L) (vI := vI) (sem := cc1_scratch9.sem) (f0 := 13) (n := 7) (u := 5) (by decide)) $$ [HM HO]
  · isplitl [HM]; · iexact HM
    iexact HO
  iintro ⟨HM, HO⟩
  iapply (stage_last (d := d) (L := L) (vI := vI) (sem := cc1_scratch9.sem) (f0 := 13) (n := 7) (u := 6) (by decide)) $$ [HM HO]
  · isplitl [HM]; · iexact HM
    iexact HO
  iintro ⟨HM, HS9, HO⟩
  ihave HM' := (Entails.of_eq (wave_eq (F := F) (d := d) (L := L) (vI := vI) 13 7 (raw vI L))) $$ HM
  icases HM' with ⟨HI, HX9⟩
  ihave HI := (idx_start (F := F) (d := d) (L := L) (vI := vI) 6656 10240) $$ HI
  iapply (loop3 (d := d) (L := L) hI) $$ HI; iintro HI
  ihave HI := (idx_end (F := F) (d := d) (L := L) (vI := vI) 6656 10240) $$ HI
  iapply (gather_issue (d := d) (L := L) (vI := vI) (vW := vW) (q := q) 10240 (by decide) rfl (by decide) (by decide)) $$ [HV HW HI HG]
  · isplitl [HV]; · iexact HV
    isplitl [HW]; · iexact HW
    isplitl [HI]; · iexact HI
    iexact HG
  iintro HG
  iapply (stage_wait (d := d) (L := L) (vI := vI) (sem := cc1_scratch10.sem) (f0 := 20) (n := 6) (u := 0) (by decide)) $$ [HN HO]
  · isplitl [HN]; · iexact HN
    iexact HO
  iintro ⟨HN, HO⟩
  iapply (stage_wait (d := d) (L := L) (vI := vI) (sem := cc1_scratch10.sem) (f0 := 20) (n := 6) (u := 1) (by decide)) $$ [HN HO]
  · isplitl [HN]; · iexact HN
    iexact HO
  iintro ⟨HN, HO⟩
  rw [wp_pure]; imodintro
  iapply Hk
  isplitl [HX9]; · iexact HX9
  isplitl [HS9]; · iexact HS9
  isplitl [HG]; · iexact HG
  isplitl [HN]; · iexact HN
  iexact HO

/-- Fields 22 to 25 are waited for, the fourth wave becomes tail positions and positions and is gathered; the bias is loaded. -/
theorem part11 (hI : ∀ j, (vI j).toNat < 100000) {vB : S16.Idx → F .f32} {td : S512.Idx → BitVec 32} {vW : S2599936.Idx → F .f32} {q : PosShare TreeShare} {v : S13312.Idx → F .f32} {O : CellTallies nD τ sig (HIx 1)} {W : Waits sig (HIx 1)} {Q : (Σ' (_ : Vec F S16 .f32), IVec S16 32) → sProp 𝕄} :
    iprop(StageMid d L vI cc1_scratch10.sem 20 6 2
        ∗ ((thr d L).loc cc1_scratch1 ↦[seg 10240 13312]{fullShare} (v))
        ∗ ((thr d L).loc main_v1_scv ↦[Finset.univ]{q} vW)
        ∗ semVal (thr d L, .dma cc1_scratch14.sem) 0
        ∗ ((thr d L).loc cc1_scratch2 ↦[Finset.univ]{fullShare} (td))
        ∗ ((thr d L).loc cc1_scratch6 ↦[Finset.univ]{fullShare} vB)
        ∗ OW d L O W)
      ⊢ iprop((iprop(((thr d L).loc main_v5_scv ↦[winS L 20 26]{fullShare} vI)
        ∗ semVal (thr d L, .dma cc1_scratch10.sem) 0
        ∗ GatFl d L vI vW cc1_scratch14.sem 10240 13312 q
        ∗ ((thr d L).loc cc1_scratch2 ↦[Finset.univ]{fullShare} (tdl vI L))
        ∗ ((thr d L).loc cc1_scratch6 ↦[Finset.univ]{fullShare} vB)
        ∗ OW d L O W) -∗ Q ⟨vB, k1_pay10⟩)
          -∗ wp (M := 𝕄) frame (wpE (defs₀ (F := F)) 𝒱₀ (thr d L) none) Set.univ (k1_part11 (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 k1_pay3) Q) := by
  rw [k1_part11_eq_skeleton]; unfold k1_part11_skel
  simp only [wp_bind]
  iintro ⟨HM, HV, HW, HG, HT, Hb, HO⟩ Hk
  iapply (stage_wait (d := d) (L := L) (vI := vI) (sem := cc1_scratch10.sem) (f0 := 20) (n := 6) (u := 2) (by decide)) $$ [HM HO]
  · isplitl [HM]; · iexact HM
    iexact HO
  iintro ⟨HM, HO⟩
  iapply (stage_wait (d := d) (L := L) (vI := vI) (sem := cc1_scratch10.sem) (f0 := 20) (n := 6) (u := 3) (by decide)) $$ [HM HO]
  · isplitl [HM]; · iexact HM
    iexact HO
  iintro ⟨HM, HO⟩
  iapply (stage_wait (d := d) (L := L) (vI := vI) (sem := cc1_scratch10.sem) (f0 := 20) (n := 6) (u := 4) (by decide)) $$ [HM HO]
  · isplitl [HM]; · iexact HM
    iexact HO
  iintro ⟨HM, HO⟩
  iapply (stage_last (d := d) (L := L) (vI := vI) (sem := cc1_scratch10.sem) (f0 := 20) (n := 6) (u := 5) (by decide)) $$ [HM HO]
  · isplitl [HM]; · iexact HM
    iexact HO
  iintro ⟨HM, HS, HO⟩
  ihave HM' := (Entails.of_eq (wave_eq (F := F) (d := d) (L := L) (vI := vI) 20 6 (raw vI L))) $$ HM
  icases HM' with ⟨HI, HX⟩
  ihave HI := (idx_start (F := F) (d := d) (L := L) (vI := vI) 10240 13312) $$ HI
  iapply (loop4 (d := d) (L := L) hI) $$ HI; iintro HI
  iapply (loop5 (d := d) (L := L) hI) $$ HI HT; iintro HI HT
  ihave HI := (idx_end (F := F) (d := d) (L := L) (vI := vI) 10240 13312) $$ HI
  iapply (gather_issue (d := d) (L := L) (vI := vI) (vW := vW) (q := q) 13312 (by decide) rfl (by decide) (by decide)) $$ [HV HW HI HG]
  · isplitl [HV]; · iexact HV
    isplitl [HW]; · iexact HW
    isplitl [HI]; · iexact HI
    iexact HG
  iintro HG
  iapply (load_bi (d := d) (L := L) 0 rfl (fun x _ _ => Finset.mem_univ x)) $$ Hb; iintro Hb
  rw [show (fun y : S16.Idx => vB (ix16 (0 + (y 0).val))) = vB from funext fun y => by rw [Nat.zero_add, ix16_val]]
  rw [wp_pure]; imodintro
  iapply Hk
  isplitl [HX]; · iexact HX
  isplitl [HS]; · iexact HS
  isplitl [HG]; · iexact HG
  isplitl [HT]; · iexact HT
  isplitl [Hb]; · iexact Hb
  iexact HO

/-- The gathers are waited for one by one, their words added; the results are formed and their copy issued. -/
theorem part12 (hI : ∀ j, (vI j).toNat < 100000) {vT : S64.Idx → F .f32} {vB : S16.Idx → F .f32} {acc ou : S512.Idx → F .f32} {r : S16384.Idx → F .f32} {vW : S2599936.Idx → F .f32} {q1 q2 q3 q4 : PosShare TreeShare} {O : CellTallies nD τ sig (HIx 1)} {W : Waits sig (HIx 1)} {Q : PUnit → sProp 𝕄} :
    iprop(GatFl d L vI vW cc1_scratch11.sem 0 3584 q1
        ∗ GatFl d L vI vW cc1_scratch12.sem 3584 6656 q2
        ∗ GatFl d L vI vW cc1_scratch13.sem 6656 10240 q3
        ∗ GatFl d L vI vW cc1_scratch14.sem 10240 13312 q4
        ∗ ((thr d L).loc cc1_scratch4 ↦[Finset.univ]{fullShare} (acc))
        ∗ ((thr d L).loc cc1_scratch2 ↦[Finset.univ]{fullShare} (tdl vI L))
        ∗ ((thr d L).loc cc1_scratch3 ↦[Finset.univ]{fullShare} vT)
        ∗ ((thr d L).loc cc1_scratch5 ↦[Finset.univ]{fullShare} (ou))
        ∗ ((thr d L).loc main_v6_scv ↦[row L]{fullShare} (r))
        ∗ semVal (thr d L, .dma cc1_scoped2.sem) 0
        ∗ OW d L O W)
      ⊢ iprop((iprop(((thr d L).loc cc1_scratch1 ↦[seg 0 3584]{fullShare} (gat vI vW L))
        ∗ ((thr d L).loc main_v1_scv ↦[Finset.univ]{q1} vW)
        ∗ ((thr d L).loc cc1_scratch0 ↦[seg 0 3584]{fullShare} (adj vI L))
        ∗ semVal (thr d L, .dma cc1_scratch11.sem) 0
        ∗ ((thr d L).loc cc1_scratch1 ↦[seg 3584 6656]{fullShare} (gat vI vW L))
        ∗ ((thr d L).loc main_v1_scv ↦[Finset.univ]{q2} vW)
        ∗ ((thr d L).loc cc1_scratch0 ↦[seg 3584 6656]{fullShare} (adj vI L))
        ∗ semVal (thr d L, .dma cc1_scratch12.sem) 0
        ∗ ((thr d L).loc cc1_scratch1 ↦[seg 6656 10240]{fullShare} (gat vI vW L))
        ∗ ((thr d L).loc main_v1_scv ↦[Finset.univ]{q3} vW)
        ∗ ((thr d L).loc cc1_scratch0 ↦[seg 6656 10240]{fullShare} (adj vI L))
        ∗ semVal (thr d L, .dma cc1_scratch13.sem) 0
        ∗ ((thr d L).loc cc1_scratch1 ↦[seg 10240 13312]{fullShare} (gat vI vW L))
        ∗ ((thr d L).loc main_v1_scv ↦[Finset.univ]{q4} vW)
        ∗ ((thr d L).loc cc1_scratch0 ↦[seg 10240 13312]{fullShare} (adj vI L))
        ∗ semVal (thr d L, .dma cc1_scratch14.sem) 0
        ∗ ((thr d L).loc cc1_scratch4 ↦[Finset.univ]{fullShare} (sums vI vW vB L 20))
        ∗ ((thr d L).loc cc1_scratch2 ↦[Finset.univ]{fullShare} (tdl vI L))
        ∗ ((thr d L).loc cc1_scratch3 ↦[Finset.univ]{fullShare} vT)
        ∗ Transfers.Flight (EC (F := F)) (thr d L) (.dma cc1_scoped2.sem) (default : HIx 1) (oRow L (k1_off42_inb L)).view.dmaCredit iprop(((thr d L).loc main_v6_scv ↦[row L]{fullShare} (resV vI vW vT vB)) ∗ ((thr d L).loc cc1_scratch5 ↦[Finset.univ]{fullShare} (outs vI vW vT vB L)))
        ∗ OW d L O W) -∗ Q ⟨⟩)
          -∗ wp (M := 𝕄) frame (wpE (defs₀ (F := F)) 𝒱₀ (thr d L) none) Set.univ (k1_part12 (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2 vB k1_pay10) Q) := by
  rw [k1_part12_eq_skeleton]; unfold k1_part12_skel
  simp only [wp_bind]
  iintro ⟨HG0, HG1, HG2, HG3, HA, HT, Hw, HU, HR, Hs4, HO⟩ Hk
  iapply (gather_wait (d := d) (L := L) (vI := vI) (vW := vW) (lo := 0) (hi := 3584) (n := 3584) (q := q1) (by decide)) $$ [HG0 HO]
  · isplitl [HG0]; · iexact HG0
    iexact HO
  iintro ⟨HG0, Hs0, HO⟩
  unfold GatR
  icases HG0 with ⟨HV0, HW0, HI0⟩
  iapply (loop6 (d := d) (L := L)) $$ HV0 HA; iintro HV0 HA
  iapply (gather_wait (d := d) (L := L) (vI := vI) (vW := vW) (lo := 3584) (hi := 6656) (n := 3072) (q := q2) (by decide)) $$ [HG1 HO]
  · isplitl [HG1]; · iexact HG1
    iexact HO
  iintro ⟨HG1, Hs1, HO⟩
  unfold GatR
  icases HG1 with ⟨HV1, HW1, HI1⟩
  iapply (loop7 (d := d) (L := L)) $$ HV1 HA; iintro HV1 HA
  iapply (gather_wait (d := d) (L := L) (vI := vI) (vW := vW) (lo := 6656) (hi := 10240) (n := 3584) (q := q3) (by decide)) $$ [HG2 HO]
  · isplitl [HG2]; · iexact HG2
    iexact HO
  iintro ⟨HG2, Hs2, HO⟩
  unfold GatR
  icases HG2 with ⟨HV2, HW2, HI2⟩
  iapply (loop8 (d := d) (L := L)) $$ HV2 HA; iintro HV2 HA
  iapply (gather_wait (d := d) (L := L) (vI := vI) (vW := vW) (lo := 10240) (hi := 13312) (n := 3072) (q := q4) (by decide)) $$ [HG3 HO]
  · isplitl [HG3]; · iexact HG3
    iexact HO
  iintro ⟨HG3, Hs3, HO⟩
  unfold GatR
  icases HG3 with ⟨HV3, HW3, HI3⟩
  iapply (loop9 (d := d) (L := L) (vT := vT) hI) $$ [HV3 HA HT Hw HU]
  · isplitl [HV3]; · iexact HV3
    isplitl [HA]; · iexact HA
    isplitl [HT]; · iexact HT
    isplitl [Hw]; · iexact Hw
    iexact HU
  iintro ⟨HV3, HA, HT, Hw, HU⟩
  iapply (copy_out (d := d) (L := L) (r := resV vI vW vT vB) ?hr) $$ [HU HR Hs4]
  case hr => exact fun x hx => resV_row hx
  · isplitl [HU]; · iexact HU
    isplitl [HR]; · iexact HR
    iexact Hs4
  iintro HF
  rw [wp_pure]; imodintro
  iapply Hk
  isplitl [HV0]; · iexact HV0
  isplitl [HW0]; · iexact HW0
  isplitl [HI0]; · iexact HI0
  isplitl [Hs0]; · iexact Hs0
  isplitl [HV1]; · iexact HV1
  isplitl [HW1]; · iexact HW1
  isplitl [HI1]; · iexact HI1
  isplitl [Hs1]; · iexact Hs1
  isplitl [HV2]; · iexact HV2
  isplitl [HW2]; · iexact HW2
  isplitl [HI2]; · iexact HI2
  isplitl [Hs2]; · iexact Hs2
  isplitl [HV3]; · iexact HV3
  isplitl [HW3]; · iexact HW3
  isplitl [HI3]; · iexact HI3
  isplitl [Hs3]; · iexact Hs3
  isplitl [HA]; · iexact HA
  isplitl [HT]; · iexact HT
  isplitl [Hw]; · iexact Hw
  isplitl [HF]; · iexact HF
  iexact HO

end Cert.Proof

end
-- ==== Proof.Tile.lean ====
/-
  The whole body of one tile.
-/
module

public import proofs.«01_k».proof.Proof.Parts

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable {d : Dev nD} {L : grid1.Coords} {vI : S26x16384.Idx → BitVec 32}

variable {vW : S2599936.Idx → F .f32} {vT : S64.Idx → F .f32} {vB : S16.Idx → F .f32}

/-- The tile's seven scratch buffers, at some contents. -/
def Bufs (d : Dev nD) (L : grid1.Coords) : sProp 𝕄 :=
  iprop((∃ f, (thr d L).loc cc1_scratch0 ↦{fullShare} f)
    ∗ (∃ f, (thr d L).loc cc1_scratch1 ↦{fullShare} f)
    ∗ (∃ f, (thr d L).loc cc1_scratch2 ↦{fullShare} f)
    ∗ (∃ f, (thr d L).loc cc1_scratch3 ↦{fullShare} f)
    ∗ (∃ f, (thr d L).loc cc1_scratch4 ↦{fullShare} f)
    ∗ (∃ f, (thr d L).loc cc1_scratch5 ↦{fullShare} f)
    ∗ (∃ f, (thr d L).loc cc1_scratch6 ↦{fullShare} f))

/-- The tile's eleven copy semaphores at zero. -/
def Sems (d : Dev nD) (L : grid1.Coords) : sProp 𝕄 :=
  iprop(semVal (thr d L, .dma cc1_scratch7.sem) 0
    ∗ semVal (thr d L, .dma cc1_scratch8.sem) 0
    ∗ semVal (thr d L, .dma cc1_scratch9.sem) 0
    ∗ semVal (thr d L, .dma cc1_scratch10.sem) 0
    ∗ semVal (thr d L, .dma cc1_scratch11.sem) 0
    ∗ semVal (thr d L, .dma cc1_scratch12.sem) 0
    ∗ semVal (thr d L, .dma cc1_scratch13.sem) 0
    ∗ semVal (thr d L, .dma cc1_scratch14.sem) 0
    ∗ semVal (thr d L, .dma cc1_scoped0.sem) 0
    ∗ semVal (thr d L, .dma cc1_scoped1.sem) 0
    ∗ semVal (thr d L, .dma cc1_scoped2.sem) 0)

/-- What a tile is lent: its columns of the index array, read shares of the table, the tail table and the bias, and its
    rows of the result, at `r`. -/
def Ops (d : Dev nD) (L : grid1.Coords) (vI : S26x16384.Idx → BitVec 32) (vW : S2599936.Idx → F .f32) (vT : S64.Idx → F .f32) (vB : S16.Idx → F .f32)
    (q qt qb : PosShare TreeShare) (r : S16384.Idx → F .f32) : sProp 𝕄 :=
  iprop(((thr d L).loc main_v5_scv ↦[winS L 0 26]{fullShare} vI) ∗ ((thr d L).loc main_v1_scv ↦[Finset.univ]{q} vW)
    ∗ ((thr d L).loc main_v3_scv ↦[Finset.univ]{qt} vT) ∗ ((thr d L).loc main_v4_scv ↦[Finset.univ]{qb} vB) ∗ ((thr d L).loc main_v6_scv ↦[row L]{fullShare} (r)))

/-- A read share of the table is four. -/
theorem share_four (q : PosShare TreeShare) :
    ((thr d L).loc main_v1_scv ↦[Finset.univ]{q} vW : sProp 𝕄)
      = iprop((((thr d L).loc main_v1_scv ↦[Finset.univ]{q.left.left} vW) ∗ ((thr d L).loc main_v1_scv ↦[Finset.univ]{q.left.right} vW))
        ∗ (((thr d L).loc main_v1_scv ↦[Finset.univ]{q.right.left} vW) ∗ ((thr d L).loc main_v1_scv ↦[Finset.univ]{q.right.right} vW))) := by
  have h : ∀ q : PosShare TreeShare, ((thr d L).loc main_v1_scv ↦[Finset.univ]{q} vW : sProp 𝕄)
      = iprop(((thr d L).loc main_v1_scv ↦[Finset.univ]{q.left} vW) ∗ ((thr d L).loc main_v1_scv ↦[Finset.univ]{q.right} vW)) :=
    fun q => BI.Entails.antisymm (pointsTo_share (PosShare.mem_left_op_right q)).1 (pointsTo_share (PosShare.mem_left_op_right q)).2
  rw [h q, h q.left, h q.right]

/-- The list is its four waves. -/
theorem idx_four (g : S13312.Idx → BitVec 32) :
    ((thr d L).loc cc1_scratch0 ↦[Finset.univ]{fullShare} g : sProp 𝕄)
      = iprop((((thr d L).loc cc1_scratch0 ↦[seg 0 3584]{fullShare} (g))) ∗ (((thr d L).loc cc1_scratch0 ↦[seg 3584 6656]{fullShare} (g))) ∗ (((thr d L).loc cc1_scratch0 ↦[seg 6656 10240]{fullShare} (g))) ∗ (((thr d L).loc cc1_scratch0 ↦[seg 10240 13312]{fullShare} (g)))) := by
  rw [← seg_all, idx_cut (a := 0) (b := 3584) (c := 13312) (by decide) (by decide), idx_cut (a := 3584) (b := 6656) (c := 13312) (by decide) (by decide),
    idx_cut (a := 6656) (b := 10240) (c := 13312) (by decide) (by decide)]

/-- The gathered words are four stretches. -/
theorem val_four (g : S13312.Idx → F .f32) :
    ((thr d L).loc cc1_scratch1 ↦[Finset.univ]{fullShare} g : sProp 𝕄)
      = iprop((((thr d L).loc cc1_scratch1 ↦[seg 0 3584]{fullShare} (g))) ∗ (((thr d L).loc cc1_scratch1 ↦[seg 3584 6656]{fullShare} (g))) ∗ (((thr d L).loc cc1_scratch1 ↦[seg 6656 10240]{fullShare} (g))) ∗ (((thr d L).loc cc1_scratch1 ↦[seg 10240 13312]{fullShare} (g)))) := by
  rw [← seg_all, val_cut (a := 0) (b := 3584) (c := 13312) (by decide) (by decide), val_cut (a := 3584) (b := 6656) (c := 13312) (by decide) (by decide),
    val_cut (a := 6656) (b := 10240) (c := 13312) (by decide) (by decide)]

/-- The tile's columns of the index array are four groups of fields. -/
theorem win_four :
    ((thr d L).loc main_v5_scv ↦[winS L 0 26]{fullShare} vI : sProp 𝕄)
      = iprop((((thr d L).loc main_v5_scv ↦[winS L 0 7]{fullShare} vI)) ∗ (((thr d L).loc main_v5_scv ↦[winS L 7 13]{fullShare} vI)) ∗ (((thr d L).loc main_v5_scv ↦[winS L 13 20]{fullShare} vI)) ∗ (((thr d L).loc main_v5_scv ↦[winS L 20 26]{fullShare} vI))) := by
  rw [win_cut (a := 0) (b := 7) (c := 26) (by decide) (by decide), win_cut (a := 7) (b := 13) (c := 26) (by decide) (by decide),
    win_cut (a := 13) (b := 20) (c := 26) (by decide) (by decide)]

/-- The whole body of a tile: from its operands, its scratch and its semaphores at zero, the result rows are written with
    the kernel's result and everything comes back. -/
theorem tile_run (hI : ∀ j, (vI j).toNat < 100000) {q qt qb : PosShare TreeShare} {r : S16384.Idx → F .f32} {O : CellTallies nD τ sig (HIx 1)} {W : Waits sig (HIx 1)} {Q : PUnit → sProp 𝕄} :
    iprop(Ops d L vI vW vT vB q qt qb r ∗ Bufs d L ∗ Sems d L ∗ OW d L O W)
      ⊢ iprop((iprop(Ops d L vI vW vT vB q qt qb (resV vI vW vT vB) ∗ Bufs d L ∗ Sems d L ∗ OW d L O W) -∗ Q ⟨⟩)
          -∗ wp (M := 𝕄) frame (wpE (defs₀ (F := F)) 𝒱₀ (thr d L) none) Set.univ (cc1__lr_sc (F := F) L iV (Memref.isWhole_whole _) wV (Memref.isWhole_whole _) tV (Memref.isWhole_whole _) bV (Memref.isWhole_whole _) oV (Memref.isWhole_whole _) idxM (Memref.isWhole_whole _) valM (Memref.isWhole_whole _) tdM (Memref.isWhole_whole _) wtM (Memref.isWhole_whole _) accM (Memref.isWhole_whole _) outM (Memref.isWhole_whole _) biM (Memref.isWhole_whole _) cc1_scratch7 cc1_scratch8 cc1_scratch9 cc1_scratch10 cc1_scratch11 cc1_scratch12 cc1_scratch13 cc1_scratch14 cc1_scoped0 cc1_scoped1 cc1_scoped2) Q) := by
  rw [cc1__lr_sc_eq_skeleton]; unfold cc1__lr_sc_skel
  simp only [wp_bind]
  unfold Ops Bufs Sems
  iintro ⟨⟨HX, HW, HT, HB, HR⟩, ⟨⟨%g0, HI⟩, ⟨%g1, HV⟩, ⟨%g2, Htd⟩, ⟨%g3, Hwt⟩, ⟨%g4, Hac⟩, ⟨%g5, Hou⟩, ⟨%g6, Hbi⟩⟩, ⟨Hs7, Hs8, Hs9, Hs10, Hs11, Hs12, Hs13, Hs14, Hc0, Hc1, Hc2⟩, HO⟩ Hk
  ihave HI := (Entails.of_eq (idx_four (F := F) (d := d) (L := L) g0)) $$ HI
  icases HI with ⟨HI0, HI1, HI2, HI3⟩
  ihave HV := (Entails.of_eq (val_four (F := F) (d := d) (L := L) g1)) $$ HV
  icases HV with ⟨HV0, HV1, HV2, HV3⟩
  ihave HX := (Entails.of_eq (win_four (F := F) (d := d) (L := L) (vI := vI))) $$ HX
  icases HX with ⟨HX0, HX1, HX2, HX3⟩
  ihave HW := (Entails.of_eq (share_four (F := F) (d := d) (L := L) (vW := vW) q)) $$ HW
  icases HW with ⟨⟨HW0, HW1⟩, HW2, HW3⟩
  imod (wave_start (d := d) (L := L) (vI := vI) cc1_scratch7.sem 0 7 g0) $$ [HI0 HX0 Hs7] with HA0
  · isplitl [HI0]; · iexact HI0
    isplitl [HX0]; · iexact HX0
    iexact Hs7
  imod (wave_start (d := d) (L := L) (vI := vI) cc1_scratch8.sem 7 6 g0) $$ [HI1 HX1 Hs8] with HA1
  · isplitl [HI1]; · iexact HI1
    isplitl [HX1]; · iexact HX1
    iexact Hs8
  imod (wave_start (d := d) (L := L) (vI := vI) cc1_scratch9.sem 13 7 g0) $$ [HI2 HX2 Hs9] with HA2
  · isplitl [HI2]; · iexact HI2
    isplitl [HX2]; · iexact HX2
    iexact Hs9
  imod (wave_start (d := d) (L := L) (vI := vI) cc1_scratch10.sem 20 6 g0) $$ [HI3 HX3 Hs10] with HA3
  · isplitl [HI3]; · iexact HI3
    isplitl [HX3]; · iexact HX3
    iexact Hs10
  iapply (part2 (d := d) (L := L)) $$ [HA0]
  · iexact HA0
  iintro HA0
  iapply (part3 (d := d) (L := L)) $$ [HA0 HA1]
  · isplitl [HA0]; · iexact HA0
    iexact HA1
  iintro ⟨HA0, HA1⟩
  iapply (part4 (d := d) (L := L)) $$ [HA1 HA2]
  · isplitl [HA1]; · iexact HA1
    iexact HA2
  iintro ⟨HA1, HA2⟩
  iapply (part5 (d := d) (L := L)) $$ [HA2 HA3]
  · isplitl [HA2]; · iexact HA2
    iexact HA3
  iintro ⟨HA2, HA3⟩
  ihave HM0 := (wave_mid (d := d) (L := L) (vI := vI) cc1_scratch7.sem 0 7 g0) $$ HA0
  iapply (part6 (d := d) (L := L)) $$ [HA3 HM0 HO]
  · isplitl [HA3]; · iexact HA3
    isplitl [HM0]; · iexact HM0
    iexact HO
  iintro ⟨HA3, HM0, HO⟩
  iapply (part7 (d := d) (L := L) hI) $$ [HM0 HV0 HW0 Hs11 HT Hwt Hc0 HB Hbi Hc1 HO]
  · isplitl [HM0]; · iexact HM0
    isplitl [HV0]; · iexact HV0
    isplitl [HW0]; · iexact HW0
    isplitl [Hs11]; · iexact Hs11
    isplitl [HT]; · iexact HT
    isplitl [Hwt]; · iexact Hwt
    isplitl [Hc0]; · iexact Hc0
    isplitl [HB]; · iexact HB
    isplitl [Hbi]; · iexact Hbi
    isplitl [Hc1]; · iexact Hc1
    iexact HO
  iintro ⟨HX0, Hs7, HG0, HT, Hwt, Hc0, HB, Hbi, Hc1, HO⟩
  ihave HM1 := (wave_mid (d := d) (L := L) (vI := vI) cc1_scratch8.sem 7 6 g0) $$ HA1
  iapply (part8 (d := d) (L := L)) $$ [HM1 HO]
  · isplitl [HM1]; · iexact HM1
    iexact HO
  iintro ⟨HI1, HX1, Hs8, HO⟩
  ihave HM2 := (wave_mid (d := d) (L := L) (vI := vI) cc1_scratch9.sem 13 7 g0) $$ HA2
  iapply (part9 (d := d) (L := L) hI) $$ [HI1 HV1 HW1 Hs12 HM2 HO]
  · isplitl [HI1]; · iexact HI1
    isplitl [HV1]; · iexact HV1
    isplitl [HW1]; · iexact HW1
    isplitl [Hs12]; · iexact Hs12
    isplitl [HM2]; · iexact HM2
    iexact HO
  iintro ⟨HG1, HM2, HO⟩
  ihave HM3 := (wave_mid (d := d) (L := L) (vI := vI) cc1_scratch10.sem 20 6 g0) $$ HA3
  iapply (part10 (d := d) (L := L) hI) $$ [HM2 HV2 HW2 Hs13 HM3 HO]
  · isplitl [HM2]; · iexact HM2
    isplitl [HV2]; · iexact HV2
    isplitl [HW2]; · iexact HW2
    isplitl [Hs13]; · iexact Hs13
    isplitl [HM3]; · iexact HM3
    iexact HO
  iintro ⟨HX2, Hs9, HG2, HM3, HO⟩
  iapply (part11 (d := d) (L := L) hI) $$ [HM3 HV3 HW3 Hs14 Htd Hbi HO]
  · isplitl [HM3]; · iexact HM3
    isplitl [HV3]; · iexact HV3
    isplitl [HW3]; · iexact HW3
    isplitl [Hs14]; · iexact Hs14
    isplitl [Htd]; · iexact Htd
    isplitl [Hbi]; · iexact Hbi
    iexact HO
  iintro ⟨HX3, Hs10, HG3, Htd, Hbi, HO⟩
  iapply (part12 (d := d) (L := L) hI) $$ [HG0 HG1 HG2 HG3 Hac Htd Hwt Hou HR Hc2 HO]
  · isplitl [HG0]; · iexact HG0
    isplitl [HG1]; · iexact HG1
    isplitl [HG2]; · iexact HG2
    isplitl [HG3]; · iexact HG3
    isplitl [Hac]; · iexact Hac
    isplitl [Htd]; · iexact Htd
    isplitl [Hwt]; · iexact Hwt
    isplitl [Hou]; · iexact Hou
    isplitl [HR]; · iexact HR
    isplitl [Hc2]; · iexact Hc2
    iexact HO
  iintro ⟨HV0, HW0, HI0, Hs11, HV1, HW1, HI1, Hs12, HV2, HW2, HI2, Hs13, HV3, HW3, HI3, Hs14, Hac, Htd, Hwt, HF, HO⟩
  iapply (copy_wait (d := d) (L := L) (dst := oRow L (k1_off42_inb L)) rfl) $$ [HF HO]
  · isplitl [HF]; · iexact HF
    iexact HO
  iintro ⟨⟨HR, Hou⟩, Hc2, HO⟩
  rw [wp_pure]; imodintro
  iapply Hk
  isplitl [HX0 HX1 HX2 HX3 HW0 HW1 HW2 HW3 HT HB HR]
  · isplitl [HX0 HX1 HX2 HX3]
    · iapply (Entails.of_eq (win_four (F := F) (d := d) (L := L) (vI := vI)).symm)
      isplitl [HX0]; · iexact HX0
      isplitl [HX1]; · iexact HX1
      isplitl [HX2]; · iexact HX2
      iexact HX3
    isplitl [HW0 HW1 HW2 HW3]
    · iapply (Entails.of_eq (share_four (F := F) (d := d) (L := L) (vW := vW) q).symm)
      isplitl [HW0 HW1]
      · isplitl [HW0]; · iexact HW0
        iexact HW1
      isplitl [HW2]; · iexact HW2
      iexact HW3
    isplitl [HT]; · iexact HT
    isplitl [HB]; · iexact HB
    iexact HR
  isplitl [HI0 HI1 HI2 HI3 HV0 HV1 HV2 HV3 Htd Hwt Hac Hou Hbi]
  · isplitl [HI0 HI1 HI2 HI3]
    · iexists (adj vI L)
      iapply (Entails.of_eq (idx_four (F := F) (d := d) (L := L) (adj vI L)).symm)
      isplitl [HI0]; · iexact HI0
      isplitl [HI1]; · iexact HI1
      isplitl [HI2]; · iexact HI2
      iexact HI3
    isplitl [HV0 HV1 HV2 HV3]
    · iexists (gat vI vW L)
      iapply (Entails.of_eq (val_four (F := F) (d := d) (L := L) (gat vI vW L)).symm)
      isplitl [HV0]; · iexact HV0
      isplitl [HV1]; · iexact HV1
      isplitl [HV2]; · iexact HV2
      iexact HV3
    isplitl [Htd]; · iexists _; iexact Htd
    isplitl [Hwt]; · iexists _; iexact Hwt
    isplitl [Hac]; · iexists _; iexact Hac
    isplitl [Hou]; · iexists _; iexact Hou
    iexists _; iexact Hbi
  isplitr [HO]
  · isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hc0]; · iexact Hc0
    isplitl [Hc1]; · iexact Hc1
    iexact Hc2
  iexact HO

end Cert.Proof

end
-- ==== Proof.Task.lean ====
/-
  The tile's body as the launch asks for it: from what the call hands a tile, and the tile's own scratch.
-/
module

public import proofs.«01_k».proof.Proof.Tile
public import Idealize.ShloMosaic.Lib.ShareLeaves

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable {d : Dev nD} {L : grid1.Coords} {vI : S26x16384.Idx → BitVec 32}

variable {vW : S2599936.Idx → F .f32} {vT : S64.Idx → F .f32} {vB : S16.Idx → F .f32}

/-! ## The tile's own buffers and semaphores -/

/-- The seven scratch buffers the body uses. -/
abbrev scratches : Finset (Ref sig .scVector) := {cc1_scratch0, cc1_scratch1, cc1_scratch2, cc1_scratch3, cc1_scratch4, cc1_scratch5, cc1_scratch6}

/-- The eleven copy semaphores the body uses. -/
abbrev copySems : Finset (SemLoc sig) := {.dma cc1_scratch7.sem, .dma cc1_scratch8.sem, .dma cc1_scratch9.sem, .dma cc1_scratch10.sem, .dma cc1_scratch11.sem, .dma cc1_scratch12.sem, .dma cc1_scratch13.sem, .dma cc1_scratch14.sem, .dma cc1_scoped0.sem, .dma cc1_scoped1.sem, .dma cc1_scoped2.sem}

/-- A resource for each scratch buffer, spelt out. -/
theorem bigSep_scratches (Φ : Ref sig .scVector → sProp 𝕄) :
    bigSep scratches Φ = iprop(Φ cc1_scratch0 ∗ Φ cc1_scratch1 ∗ Φ cc1_scratch2 ∗ Φ cc1_scratch3 ∗ Φ cc1_scratch4 ∗ Φ cc1_scratch5 ∗ Φ cc1_scratch6) := by
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- A resource for each copy semaphore, spelt out. -/
theorem bigSep_copySems (Φ : SemLoc sig → sProp 𝕄) :
    bigSep copySems Φ = iprop(Φ (.dma cc1_scratch7.sem)
      ∗ Φ (.dma cc1_scratch8.sem)
      ∗ Φ (.dma cc1_scratch9.sem)
      ∗ Φ (.dma cc1_scratch10.sem)
      ∗ Φ (.dma cc1_scratch11.sem)
      ∗ Φ (.dma cc1_scratch12.sem)
      ∗ Φ (.dma cc1_scratch13.sem)
      ∗ Φ (.dma cc1_scratch14.sem)
      ∗ Φ (.dma cc1_scoped0.sem)
      ∗ Φ (.dma cc1_scoped1.sem)
      ∗ Φ (.dma cc1_scoped2.sem)) := by
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The copy semaphores belong to the call. -/
theorem copySems_scoped : ∀ sm ∈ copySems, SemLoc.isScoped .scVector sm = true := by decide

/-- The tile's other own buffers, at some contents. -/
def RestBufs (d : Dev nD) (L : grid1.Coords) : sProp 𝕄 :=
  bigSep (SparseCore.Cfg.ownRefs (τ := τ) (.scVector (cV L) (jV L)) \ scratches.map ⟨(Proc.scVector (cV L) (jV L)).devRef, Proc.devRef_injective _⟩)
    fun b => iprop(∃ f, ((d, b) : Loc nD τ sig) ↦{fullShare} f)

/-- The tile's other own semaphores at zero. -/
def RestSems (d : Dev nD) (L : grid1.Coords) : sProp 𝕄 :=
  bigSep (SparseCore.Cfg.ownCells (thr d L) \ copySems.map ⟨fun sm => (thr d L, sm), fun _ _ h => (Prod.ext_iff.mp h).2⟩) fun g => semVal g 0

/-- A tile's own buffers are the seven it uses and the rest. -/
theorem ownBufs_tile : (SparseCore.Cfg.ownBufs (thr d L) : sProp 𝕄) = iprop(Bufs d L ∗ RestBufs d L) := by
  unfold SparseCore.Cfg.ownBufs RestBufs
  have hs : scratches.map ⟨(Proc.scVector (cV L) (jV L)).devRef, Proc.devRef_injective _⟩ ⊆ SparseCore.Cfg.ownRefs (τ := τ) (.scVector (cV L) (jV L)) := by
    intro b hb
    obtain ⟨r, hr, rfl⟩ := Finset.mem_map.mp hb
    refine SparseCore.Cfg.mem_ownRefs_of_owner ?_
    simp only [Finset.mem_insert, Finset.mem_singleton] at hr
    rcases hr with rfl | rfl | rfl | rfl | rfl | rfl | rfl <;> rfl
  refine (SparseCore.bigSep_sdiff_split' hs).trans ?_
  congr 1
  rw [SparseCore.bigSep_map, bigSep_scratches]
  rfl

/-- A tile's own semaphores are those it uses and the rest. -/
theorem ownSems_tile : (SparseCore.Cfg.ownSems0 (thr d L) : sProp 𝕄) = iprop(Sems d L ∗ RestSems d L) := by
  unfold SparseCore.Cfg.ownSems0 RestSems
  have hs : copySems.map ⟨fun sm => (thr d L, sm), fun _ _ h => (Prod.ext_iff.mp h).2⟩ ⊆ SparseCore.Cfg.ownCells (thr d L) := by
    intro b hb
    obtain ⟨r, hr, rfl⟩ := Finset.mem_map.mp hb
    refine SparseCore.Cfg.mem_ownCells.mpr ⟨rfl, ?_⟩
    show SemLoc.isScoped .scVector r = true
    exact copySems_scoped r hr
  refine (SparseCore.bigSep_sdiff_split' hs).trans ?_
  congr 1
  rw [SparseCore.bigSep_map, bigSep_copySems]
  rfl

/-! ## The task -/

/-- The task of tile `L`: from what the call lends it and its own scratch and semaphores, to the same with its rows of the
    result written; the waits it adds are its copies'. -/
theorem tile_task (hI : ∀ j, (vI j).toNat < 100000) {q qt qb : PosShare TreeShare} {r : S16384.Idx → F .f32}
    (O : CellTallies nD τ sig (HIx 1)) (W : Waits sig (HIx 1)) (hO : ∀ g, O g none = 0) :
    iprop(levAts (K (F := F)).L (K (F := F)).lev ∗ emp ∗ Ops d L vI vW vT vB q qt qb r
        ∗ scopedBufs (thr d L) ∗ scopedSems0 (thr d L) ∗ owes (thr d L) O W)
      ⊢ wp (M := 𝕄) frame (wpE (defs₀ (F := F)) 𝒱₀ (thr d L) none) Set.univ
          (cc1__lr_sc (F := F) L iV (Memref.isWhole_whole _) wV (Memref.isWhole_whole _) tV (Memref.isWhole_whole _) bV (Memref.isWhole_whole _) oV (Memref.isWhole_whole _)
      idxM (Memref.isWhole_whole _) valM (Memref.isWhole_whole _) tdM (Memref.isWhole_whole _) wtM (Memref.isWhole_whole _) accM (Memref.isWhole_whole _)
      outM (Memref.isWhole_whole _) biM (Memref.isWhole_whole _) cc1_scratch7 cc1_scratch8 cc1_scratch9 cc1_scratch10 cc1_scratch11 cc1_scratch12
      cc1_scratch13 cc1_scratch14 cc1_scoped0 cc1_scoped1 cc1_scoped2)
          fun _ => iprop(Ops d L vI vW vT vB q qt qb (resV vI vW vT vB) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V facts d (cV L) (jV L), SparseCore.Cfg.scopedSems0_V (Val := Elt F) d (cV L) (jV L)]
  have hb := ownBufs_tile (F := F) (d := d) (L := L)
  have hs := ownSems_tile (F := F) (d := d) (L := L)
  unfold thr at hb hs ⊢
  rw [hb, hs]
  iintro ⟨#Hlv, -, Hops, ⟨HB, HBr⟩, ⟨HS, HSr⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  iapply (tile_run (d := d) (L := L) hI (q := q) (qt := qt) (qb := qb) (r := r) (O := O) (W := W)) $$ [Hops HB HS HO]
  · isplitl [Hops]; · iexact Hops
    isplitl [HB]; · iexact HB
    isplitl [HS]; · iexact HS
    unfold OW
    isplitr; · iexact Hmw
    iexists W; isplitr
    · ipureintro; exact fun p hp => .inl hp
    iexact HO
  iintro ⟨Hops, HB, HS, HOW⟩
  unfold OW
  icases HOW with ⟨-, %W', %hW, HO⟩
  isplitl [Hops]; · iexact Hops
  isplitl [HB HBr]; · isplitl [HB] <;> iassumption
  isplitl [HS HSr]; · isplitl [HS] <;> iassumption
  iexists W'; isplitr
  · ipureintro; exact fun p hp => (hW p hp).imp_right .inl
  iexact HO

/-- The grid coordinates of a SparseCore and a subcore. -/
def coordsV (c : Fin (grid1.bound 0)) (s : Fin (grid1.bound 1)) : grid1.Coords :=
  fun | 0 => c | 1 => s | ⟨_ + 2, h⟩ => absurd h (Nat.not_lt.2 (Nat.le_add_left _ _))

/-- The body that a subcore runs. -/
theorem defs₀_vector (c : Fin τ.nSC) (s : Fin τ.nSub) :
    defs₀ (F := F) (.scVector c s) 1 ⟨⟩
      = SparseCore.onTile hcore1 hsub1 (fun c s => cc1__lr_sc (coordsV c s) iV (Memref.isWhole_whole _) wV (Memref.isWhole_whole _) tV (Memref.isWhole_whole _) bV (Memref.isWhole_whole _) oV (Memref.isWhole_whole _)
      idxM (Memref.isWhole_whole _) valM (Memref.isWhole_whole _) tdM (Memref.isWhole_whole _) wtM (Memref.isWhole_whole _) accM (Memref.isWhole_whole _)
      outM (Memref.isWhole_whole _) biM (Memref.isWhole_whole _) cc1_scratch7 cc1_scratch8 cc1_scratch9 cc1_scratch10 cc1_scratch11 cc1_scratch12
      cc1_scratch13 cc1_scratch14 cc1_scoped0 cc1_scoped1 cc1_scoped2) ⟨⟩ c s := rfl

/-! ## What the call hands over -/

/-- The tile number, among the thirty-two, of a subcore of a SparseCore. -/
def tileNo (L : grid1.Coords) : Fin (2 ^ 5) := ⟨(2 * (L 1).val + (L 0).val) % 32, Nat.mod_lt _ (by decide)⟩

/-- A tile's read share of an array all tiles read. -/
def shareOf (L : grid1.Coords) : PosShare TreeShare := ShareLeaves.leaf 5 fullShare (tileNo L)

/-- What tile `L` is handed with the result array at `r`: its columns of the indices, its read shares of the three tables, its rows of the result. -/
abbrev Hand (d : Dev nD) (L : grid1.Coords) (vI : S26x16384.Idx → BitVec 32) (vW : S2599936.Idx → F .f32) (vT : S64.Idx → F .f32) (vB : S16.Idx → F .f32)
    (r : S16384.Idx → F .f32) : sProp 𝕄 := Ops d L vI vW vT vB (shareOf L) (shareOf L) (shareOf L) r

/-- The tile of subcore `i` of SparseCore `c` of the call. -/
abbrev tile (c : Fin ((K (F := F)).nCore 0)) (i : Fin ((K (F := F)).nSub 0)) : grid1.Coords := coordsV ⟨c.val, c.isLt⟩ ⟨i.val, i.isLt⟩

/-- The contents the call reads and writes, per device. -/
structure Conts (F : FTy → Type) where
  vI : Dev nD → S26x16384.Idx → BitVec 32
  vW : Dev nD → S2599936.Idx → F .f32
  vT : Dev nD → S64.Idx → F .f32
  vB : Dev nD → S16.Idx → F .f32
  r : Dev nD → S16384.Idx → F .f32

variable (C : Conts F)

/-- The result the call leaves. -/
abbrev Conts.out (d : Dev nD) : S16384.Idx → F .f32 := resV (C.vI d) (C.vW d) (C.vT d) (C.vB d)

/-- What the call hands to each tile and takes back. -/
def P : (K (F := F)).Pay (nD := nD) (Val := Elt F) (Name := ℕ) (U := UU) where
  st := fun q d c => match q with | 0 => bigSep Finset.univ fun i : Fin ((K (F := F)).nSub 0) => Hand d (tile c i) (C.vI d) (C.vW d) (C.vT d) (C.vB d) (C.r d)
  dn := fun q d c => match q with | 0 => bigSep Finset.univ fun i : Fin ((K (F := F)).nSub 0) => Hand d (tile c i) (C.vI d) (C.vW d) (C.vT d) (C.vB d) (C.out d)
  go := fun q d c i => match q with | 0 => Hand d (tile c i) (C.vI d) (C.vW d) (C.vT d) (C.vB d) (C.r d)
  td := fun q d c i => match q with | 0 => Hand d (tile c i) (C.vI d) (C.vW d) (C.vT d) (C.vB d) (C.out d)
  x := fun _ _ => iprop(emp)

instance hand_storable (d : Dev nD) (L : grid1.Coords) (vI : S26x16384.Idx → BitVec 32) (vW : S2599936.Idx → F .f32) (vT : S64.Idx → F .f32)
    (vB : S16.Idx → F .f32) (r : S16384.Idx → F .f32) : BI.Storable (upEmb : UEmb _ 𝕄) (Hand d L vI vW vT vB r) := by
  unfold Hand Ops; infer_instance

instance P_storable : (P (F := F) C).IsStorable where
  st q d c := match q with
    | 0 => (inferInstance : BI.Storable (upEmb : UEmb _ 𝕄) (bigSep Finset.univ fun i : Fin ((K (F := F)).nSub 0) => Hand d (tile c i) (C.vI d) (C.vW d) (C.vT d) (C.vB d) (C.r d)))
  dn q d c := match q with
    | 0 => (inferInstance : BI.Storable (upEmb : UEmb _ 𝕄) (bigSep Finset.univ fun i : Fin ((K (F := F)).nSub 0) => Hand d (tile c i) (C.vI d) (C.vW d) (C.vT d) (C.vB d) (C.out d)))
  go q d c i := match q with
    | 0 => (inferInstance : BI.Storable (upEmb : UEmb _ 𝕄) (Hand d (tile c i) (C.vI d) (C.vW d) (C.vT d) (C.vB d) (C.r d)))
  td q d c i := match q with
    | 0 => (inferInstance : BI.Storable (upEmb : UEmb _ 𝕄) (Hand d (tile c i) (C.vI d) (C.vW d) (C.vT d) (C.vB d) (C.out d)))

/-- What the proof asks of the contents: every index is below the field's size. -/
def Conts.OK : Prop := ∀ (d : Dev nD) (j : S26x16384.Idx), (C.vI d j).toNat < 100000

set_option maxRecDepth 16384 in
/-- Every tile's task meets its obligation. -/
theorem tileObl (hC : C.OK) : (K (F := F)).TileObl (D (F := F)) 𝒱 (P C) v₀ 0 := by
  intro d c i O W hO _ _
  simp only [show (P C).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_task (d := d) (L := coordsV ⟨_, hci.1⟩ ⟨_, hci.2⟩) (hC d) O W hO

/-- The call hands each tile exactly its part, so nothing is split or joined on the way. -/
theorem vecSplit : (K (F := F)).VecSplit' (P C) 0 := by
  intro d c
  show (bigSep Finset.univ fun i : Fin ((K (F := F)).nSub 0) => Hand d (tile c i) (C.vI d) (C.vW d) (C.vT d) (C.vB d) (C.r d) : sProp 𝕄) ⊢ |={Set.univ}=> iprop(
      (bigSep Finset.univ fun i : Fin ((K (F := F)).nSub 0) => Hand d (tile c i) (C.vI d) (C.vW d) (C.vT d) (C.vB d) (C.r d))
      ∗ ((bigSep Finset.univ fun i : Fin ((K (F := F)).nSub 0) => Hand d (tile c i) (C.vI d) (C.vW d) (C.vT d) (C.vB d) (C.out d))
          -∗ (bigSep Finset.univ fun i : Fin ((K (F := F)).nSub 0) => Hand d (tile c i) (C.vI d) (C.vW d) (C.vT d) (C.vB d) (C.out d))))
  iintro H; imodintro
  isplitl [H]; · iexact H
  iintro H; iexact H

end Cert.Proof

end
-- ==== Proof.Hand.lean ====
/-
  The arrays of the SparseCore call, whole, are the parts handed to the thirty-two tiles.
-/
module

public import proofs.«01_k».proof.Proof.Task

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable {d : Dev nD} {L : grid1.Coords} {vI : S26x16384.Idx → BitVec 32}

variable {vW : S2599936.Idx → F .f32} {vT : S64.Idx → F .f32} {vB : S16.Idx → F .f32}

/-! ## The whole arrays are the tiles' parts -/

/-- The thirty-two tiles, by SparseCore and subcore. -/
abbrev tileAt (p : Fin 2 × Fin 16) : grid1.Coords := coordsV p.1 p.2

/-- The first row of the tile at a pair of SparseCore and subcore. -/
theorem rb_tileAt (p : Fin 2 × Fin 16) : rb (tileAt p) = 1024 * p.2.val + 512 * p.1.val := rfl

/-- Two tiles' result rows are disjoint. -/
theorem row_disjoint (p : Fin 2 × Fin 16) (_ : p ∈ (Finset.univ : Finset (Fin 2 × Fin 16))) (p' : Fin 2 × Fin 16)
    (_ : p' ∈ (Finset.univ : Finset (Fin 2 × Fin 16))) (h : p ≠ p') : Disjoint (row (tileAt p)) (row (tileAt p')) := by
  refine Finset.disjoint_left.mpr fun x hx hx' => h ?_
  rw [mem_row, rb_tileAt] at hx hx'
  obtain ⟨c, i⟩ := p; obtain ⟨c', i'⟩ := p'
  have := c.isLt; have := c'.isLt
  refine Prod.ext (Fin.ext ?_) (Fin.ext ?_) <;> simp only at hx hx' ⊢ <;> omega

/-- The tiles' result rows are all rows. -/
theorem row_cover : (Finset.univ : Finset (Fin 2 × Fin 16)).biUnion (fun p => row (tileAt p)) = Finset.univ := by
  refine Finset.eq_univ_of_forall fun x => Finset.mem_biUnion.mpr ?_
  have hx : (x 0).val < 16384 := (x 0).isLt
  refine ⟨(⟨(x 0).val / 512 % 2, Nat.mod_lt _ (by decide)⟩, ⟨(x 0).val / 1024, by omega⟩), Finset.mem_univ _, ?_⟩
  rw [mem_row, rb_tileAt]; simp only; omega

/-- Two tiles' parts of the index array are disjoint. -/
theorem win_disjoint (p : Fin 2 × Fin 16) (_ : p ∈ (Finset.univ : Finset (Fin 2 × Fin 16))) (p' : Fin 2 × Fin 16)
    (_ : p' ∈ (Finset.univ : Finset (Fin 2 × Fin 16))) (h : p ≠ p') : Disjoint (winS (tileAt p) 0 26) (winS (tileAt p') 0 26) := by
  refine Finset.disjoint_left.mpr fun x hx hx' => h ?_
  rw [mem_winS, rb_tileAt] at hx hx'
  obtain ⟨c, i⟩ := p; obtain ⟨c', i'⟩ := p'
  have := c.isLt; have := c'.isLt
  refine Prod.ext (Fin.ext ?_) (Fin.ext ?_) <;> simp only at hx hx' ⊢ <;> omega

/-- The tiles' parts of the index array are all of it. -/
theorem win_cover : (Finset.univ : Finset (Fin 2 × Fin 16)).biUnion (fun p => winS (tileAt p) 0 26) = Finset.univ := by
  refine Finset.eq_univ_of_forall fun x => Finset.mem_biUnion.mpr ?_
  have hx : (x 1).val < 16384 := (x 1).isLt
  have hf : (x 0).val < 26 := (x 0).isLt
  refine ⟨(⟨(x 1).val / 512 % 2, Nat.mod_lt _ (by decide)⟩, ⟨(x 1).val / 1024, by omega⟩), Finset.mem_univ _, ?_⟩
  rw [mem_winS, rb_tileAt]; simp only; omega

/-- Two tiles have different numbers. -/
theorem tileNo_inj : Function.Injective fun p : Fin 2 × Fin 16 => tileNo (tileAt p) := by decide

/-- The tiles by number. -/
def tileNumber : Fin 2 × Fin 16 ≃ Fin (2 ^ 5) :=
  Equiv.ofBijective (fun p => tileNo (tileAt p)) ((Fintype.bijective_iff_injective_and_card _).mpr ⟨tileNo_inj, rfl⟩)

/-- The TensorCore's whole arrays are what the thirty-two tiles are handed. -/
theorem hand_split (d : Dev nD) (vI : S26x16384.Idx → BitVec 32) (vW : S2599936.Idx → F .f32) (vT : S64.Idx → F .f32) (vB : S16.Idx → F .f32)
    (r : S16384.Idx → F .f32) :
    (iprop(((SparseCore.T d : Thread nD τ).loc main_v5 ↦[Finset.univ]{fullShare} vI) ∗ ((SparseCore.T d : Thread nD τ).loc main_v1 ↦[Finset.univ]{fullShare} vW) ∗ ((SparseCore.T d : Thread nD τ).loc main_v3 ↦[Finset.univ]{fullShare} vT)
        ∗ ((SparseCore.T d : Thread nD τ).loc main_v4 ↦[Finset.univ]{fullShare} vB) ∗ ((SparseCore.T d : Thread nD τ).loc main_v6 ↦[Finset.univ]{fullShare} r)) : sProp 𝕄)
      = bigSep Finset.univ fun c : Fin ((K (F := F)).nCore 0) => bigSep Finset.univ fun i : Fin ((K (F := F)).nSub 0) => Hand d (tile c i) vI vW vT vB r := by
  have hl : ∀ (ℓ : Loc nD τ sig) (f : Buf (Elt F) ℓ), (ℓ ↦[Finset.univ]{fullShare} f : sProp 𝕄)
      = bigSep (Finset.univ : Finset (Fin 2 × Fin 16)) fun p => ℓ ↦[Finset.univ]{shareOf (tileAt p)} f := by
    intro ℓ f
    rw [ShareLeaves.pointsTo_leaves Finset.univ f 5 fullShare, ← Finset.map_univ_equiv tileNumber, BI.bigSep_map]
    rfl
  have h5 : ((SparseCore.T d : Thread nD τ).loc main_v5 ↦[Finset.univ]{fullShare} vI : sProp 𝕄)
      = bigSep (Finset.univ : Finset (Fin 2 × Fin 16)) fun p => (SparseCore.T d : Thread nD τ).loc main_v5 ↦[winS (tileAt p) 0 26]{fullShare} vI := by
    rw [← pointsTo_biUnion Finset.univ (ℓ := (SparseCore.T d : Thread nD τ).loc main_v5) (fun p => winS (tileAt p) 0 26) win_disjoint, win_cover]
  have h6 : ((SparseCore.T d : Thread nD τ).loc main_v6 ↦[Finset.univ]{fullShare} r : sProp 𝕄)
      = bigSep (Finset.univ : Finset (Fin 2 × Fin 16)) fun p => (SparseCore.T d : Thread nD τ).loc main_v6 ↦[row (tileAt p)]{fullShare} r := by
    rw [← pointsTo_biUnion Finset.univ (ℓ := (SparseCore.T d : Thread nD τ).loc main_v6) (fun p => row (tileAt p)) row_disjoint, row_cover]
  rw [h5, hl ((SparseCore.T d : Thread nD τ).loc main_v1), hl ((SparseCore.T d : Thread nD τ).loc main_v3), hl ((SparseCore.T d : Thread nD τ).loc main_v4), h6, ← bigSep_sep', ← bigSep_sep', ← bigSep_sep', ← bigSep_sep']
  show bigSep (Finset.univ : Finset (Fin 2 × Fin 16)) _ = _
  rw [← Finset.univ_product_univ, SparseCore.bigSep_product]
  rfl

end Cert.Proof

end
-- ==== Proof.Host.lean ====
/-
  @main on the TensorCore, and the launch's ghost state.
-/
module

public import proofs.«01_k».proof.Proof.Region
public import proofs.«01_k».proof.Proof.Hand

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable {d : Dev nD} {L : grid1.Coords} {vI : S26x16384.Idx → BitVec 32}

open Idealize.ShloMosaic.StableHlo (held wp_hlo_within)

/-! ## The buffers along @main -/

/-- The TensorCore's unscoped buffers. -/
def hostRefs : Finset (DevRef τ sig) := (StableHlo.tcRefs τ sig).filter fun b => ¬ b.isScoped

/-- The host's buffers at a valuation, as one resource and as the host's own list. -/
theorem host_held (d : Dev nD) (W : Valuation τ sig (Elt F)) :
    (unscopedBufs d (fun b => W (Proc.devRef .tc b)) : sProp 𝕄) = held (SparseCore.T d : Thread nD τ) hostRefs W := by
  unfold unscopedBufs StableHlo.held hostRefs StableHlo.tcRefs
  rw [Finset.filter_map, BI.bigSep_map]
  rfl

/-- A host operation on the TensorCore's buffers uses the host's buffers only. -/
theorem host_sub (op : HloOp τ sig (Elt F)) (h : op.bufs ⊆ StableHlo.tcRefs τ sig) : op.bufs ⊆ hostRefs := fun b hb =>
  Finset.mem_filter.mpr ⟨h hb, fun h' => Bool.false_ne_true ((op.no_scoped b hb).symm.trans h')⟩

/-- The table as one row. -/
abbrev opRow : HloOp τ sig (Elt F) := StableHlo.unary main_arg1 main_v0 ((transpose S1x2600000 [1, 0] · transposes_S2600000x1_S1x2600000_1_0) : (⟨S2600000x1, .f32⟩ : BufTy).Contents (Elt F) → (⟨S1x2600000, .f32⟩ : BufTy).Contents (Elt F))
/-- The table's last sixty-four words, as a column. -/
abbrev opTail : HloOp τ sig (Elt F) := StableHlo.unary main_arg1 main_v2 ((extractStridedSlice S64x1 ![2599936, 0] · slices_S2600000x1_S64x1_2599936_0) : (⟨S2600000x1, .f32⟩ : BufTy).Contents (Elt F) → (⟨S64x1, .f32⟩ : BufTy).Contents (Elt F))
/-- The column made flat. -/
abbrev opFlat : HloOp τ sig (Elt F) := StableHlo.reshape main_v2 main_v3 (rfl : (.f32 : EltTy) = .f32) shapeCasts_S64x1_S64
/-- The bias in sixteen copies. -/
abbrev opBias : HloOp τ sig (Elt F) := StableHlo.unary main_arg2 main_v4 (broadcastInDim S16 ![0] bcast_S1_S16_0 : (⟨S1, .f32⟩ : BufTy).Contents (Elt F) → (⟨S16, .f32⟩ : BufTy).Contents (Elt F))
/-- The indices, fields first. -/
abbrev opIdx : HloOp τ sig (Elt F) := StableHlo.unary main_arg0 main_v5 ((transpose S26x16384 [1, 0] · transposes_S16384x26_S26x16384_1_0) : (⟨S16384x26, .i32⟩ : BufTy).Contents (Elt F) → (⟨S26x16384, .i32⟩ : BufTy).Contents (Elt F))

variable (m : (ℓ : Loc nD τ sig) → Buf (Elt F) ℓ) (ρ : Dev nD → PrngReg)

/-- The device's buffers at launch. -/
def W0 (d : Dev nD) : Valuation τ sig (Elt F) := fun b => m (d, b)
/-- After the transposition of the table. -/
def W1 (d : Dev nD) : Valuation τ sig (Elt F) := opRow.result (W0 m d)
/-- The same, on every device, by the TensorCore's references. -/
def V1 : Vals F := fun c b => W1 m c (Proc.devRef .tc b)
/-- After the TensorCore call. -/
def W2 (d : Dev nD) : Valuation τ sig (Elt F) := Function.update (W1 m d) (Proc.devRef .tc main_v1) (flat (V1 m) d : S2599936.Idx → Elt F .f32)
/-- When the SparseCore call starts. -/
def W6 (d : Dev nD) : Valuation τ sig (Elt F) := opIdx.result (opBias.result (opFlat.result (opTail.result (W2 m d))))

/-- The contents the SparseCore call reads and writes. -/
def conts : Conts F where
  vI d := W6 m d (Proc.devRef .tc main_v5)
  vW d := W6 m d (Proc.devRef .tc main_v1)
  vT d := W6 m d (Proc.devRef .tc main_v3)
  vB d := W6 m d (Proc.devRef .tc main_v4)
  r d := W6 m d (Proc.devRef .tc main_v6)

/-- The same after the TensorCore call. -/
theorem host_retiled (d : Dev nD) : (unscopedBufs d (retiled (V1 m) d) : sProp 𝕄) = held (SparseCore.T d : Thread nD τ) hostRefs (W2 m d) := by
  rw [← host_held]
  congr 1
  funext b
  by_cases h : b = main_v1
  · subst h; rw [retiled_self]; unfold W2; rw [Function.update_self]
  · rw [retiled_ne _ _ h]; unfold W2
    rw [Function.update_of_ne (fun e => h (Proc.devRef_injective _ e))]; rfl

/-- The TensorCore's unscoped buffers one by one. -/
theorem unscoped_all (d : Dev nD) (W : (b : Ref sig .tc) → Buf (Elt F) ((SparseCore.T d : Thread nD τ).loc b)) :
    (unscopedBufs d W : sProp 𝕄) = iprop(((SparseCore.T d : Thread nD τ).loc main_arg0 ↦{fullShare} W main_arg0) ∗ ((SparseCore.T d : Thread nD τ).loc main_arg1 ↦{fullShare} W main_arg1)
      ∗ ((SparseCore.T d : Thread nD τ).loc main_arg2 ↦{fullShare} W main_arg2) ∗ ((SparseCore.T d : Thread nD τ).loc main_v0 ↦{fullShare} W main_v0)
      ∗ ((SparseCore.T d : Thread nD τ).loc main_v2 ↦{fullShare} W main_v2) ∗ ((SparseCore.T d : Thread nD τ).loc main_v5 ↦{fullShare} W main_v5)
      ∗ ((SparseCore.T d : Thread nD τ).loc main_v1 ↦{fullShare} W main_v1) ∗ ((SparseCore.T d : Thread nD τ).loc main_v3 ↦{fullShare} W main_v3)
      ∗ ((SparseCore.T d : Thread nD τ).loc main_v4 ↦{fullShare} W main_v4) ∗ (SparseCore.T d : Thread nD τ).loc main_v6 ↦{fullShare} W main_v6) := by
  unfold unscopedBufs
  rw [show (Finset.univ.filter fun b : Ref sig .tc => ¬ b.isScoped)
      = {main_arg0, main_arg1, main_arg2, main_v0, main_v2, main_v5, main_v1, main_v3, main_v4, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- When the SparseCore call starts, one by one. -/
theorem host_start (d : Dev nD) : (held (SparseCore.T d : Thread nD τ) hostRefs (opIdx.result (opBias.result (opFlat.result (opTail.result (W2 m d))))) : sProp 𝕄)
      = unscopedBufs d (fun b => W6 m d (Proc.devRef .tc b)) :=
  (host_held d (W6 m d)).symm

/-- An argument is what it was at launch when the SparseCore call starts. -/
theorem W6_arg (d : Dev nD) (b : Ref sig .tc) (h0 : b ≠ main_v0) (h1 : b ≠ main_v1) (h2 : b ≠ main_v2) (h3 : b ≠ main_v3) (h4 : b ≠ main_v4)
    (h5 : b ≠ main_v5) : W6 m d (Proc.devRef .tc b) = m ((SparseCore.T d : Thread nD τ).loc b) := by
  unfold W6
  rw [StableHlo.unary_result_ne _ _ _ _ _ _ h5, StableHlo.unary_result_ne _ _ _ _ _ _ h4, StableHlo.reshape_result_ne _ _ _ _ _ _ _ h3, StableHlo.unary_result_ne _ _ _ _ _ _ h2]
  unfold W2
  rw [Function.update_of_ne (fun e => h1 (Proc.devRef_injective _ e))]
  unfold W1
  rw [StableHlo.unary_result_ne _ _ _ _ _ _ h0]
  rfl

/-! ## The launch's ghost state -/

/-- The launch element: the handshake rounds, the pipeline's rounds, no transfer. -/
def u₀ : UU := (initOf (K (F := F)).hsCells (K (F := F)).hsToks, (initOf (Pipeline.cells cfgs cellOf_inj) (Pipeline.launchToks cfgs cellOf_inj), 1))

/-- The pipeline's ghost state on one core. -/
abbrev pipeGhost (d : Dev nD) : sProp 𝕄 := iprop(Pipeline.cellsGhost cfgs EP 0 d ∗ Pipeline.toksInit cfgs EP 0 d)

/-- Nothing, many times over, is nothing. -/
theorem bigSep_nothing {I : Type} (s : Finset I) : (bigSep s fun _ => iprop(emp)) = (iprop(emp) : sProp 𝕄) := bigSep_emp_const s

/-- The launch element pays for the handshake, the pipeline and each thread's part. -/
theorem fund : (ownU (u₀ (F := F)) : sProp 𝕄)
    ⊢ |={Set.univ}=> iprop(BI.own (EH (initOf (K (F := F)).hsCells (K (F := F)).hsToks)) ∗ (bigSep Finset.univ fun d : Dev nD => pipeGhost (F := F) d)
        ∗ bigSep Finset.univ fun thr : Thread nD τ => bigSep Finset.univ fun q : Fin 1 => (P (conts m)).x q thr) := by
  unfold u₀
  iintro Hu
  ihave H := (ownU_pair (initOf (K (F := F)).hsCells (K (F := F)).hsToks) _) $$ Hu
  icases H with ⟨HH, HR⟩
  ihave H := (own_pair_emb embR (initOf (Pipeline.cells cfgs cellOf_inj) (Pipeline.launchToks cfgs cellOf_inj)) (1 : Counters)) $$ HR
  icases H with ⟨HP, -⟩
  imod (show (BI.own (EP (F := F) (initOf (Pipeline.cells cfgs cellOf_inj) (Pipeline.launchToks cfgs cellOf_inj))) : sProp 𝕄) ⊢ _ from
    Pipeline.fund_ghost cfgs EP cellOf_inj) $$ HP with ⟨HG, HT⟩
  imodintro
  isplitl [HH]; · iexact HH
  isplitl [HG HT]
  · rw [show (bigSep Finset.univ fun d : Dev nD => pipeGhost (F := F) d)
        = iprop((bigSep Finset.univ fun c : Dev nD => bigSep Finset.univ fun p => Pipeline.cellsGhost cfgs EP p c)
          ∗ (bigSep Finset.univ fun c : Dev nD => bigSep Finset.univ fun p => (Pipeline.toksInit cfgs EP p c : sProp 𝕄))) from by
      rw [← bigSep_sep']
      refine bigSep_congr fun d _ => ?_
      rw [bigSep_univ_of_subsingleton (0 : Fin 1), bigSep_univ_of_subsingleton (0 : Fin 1)]]
    isplitl [HG] <;> iassumption
  · rw [show (bigSep Finset.univ fun thr : Thread nD τ => bigSep Finset.univ fun q : Fin 1 => (P (F := F) (conts m)).x q thr) = bigSep Finset.univ fun _ => iprop(emp) from
      bigSep_congr fun _ _ => bigSep_univ_of_subsingleton (0 : Fin 1), bigSep_nothing]
    iempintro

/-! ## @main -/

/-- What @main keeps to the end: the arguments as found, the result. -/
abbrev FIN (d : Dev nD) : sProp 𝕄 :=
  iprop(((SparseCore.T d : Thread nD τ).loc main_arg0 ↦{fullShare} m ((SparseCore.T d : Thread nD τ).loc main_arg0))
    ∗ ((SparseCore.T d : Thread nD τ).loc main_arg1 ↦{fullShare} m ((SparseCore.T d : Thread nD τ).loc main_arg1))
    ∗ ((SparseCore.T d : Thread nD τ).loc main_arg2 ↦{fullShare} m ((SparseCore.T d : Thread nD τ).loc main_arg2))
    ∗ ((SparseCore.T d : Thread nD τ).loc main_v6 ↦{fullShare} ((conts m).out d : S16384.Idx → F .f32)))

/-- What the TensorCore's state holds besides what it owes. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

/-- The TensorCore's state before the call is what it owes and the rest. -/
theorem tcSt_split (d : Dev nD) : ((K (F := F)).tcSt EH d 0 : sProp 𝕄) = iprop(owesLow d ∗ tcRest d) := rfl

/-- The five arrays, whole, are what the SparseCores get at the start. -/
theorem st_split (d : Dev nD) :
    (iprop(((SparseCore.T d : Thread nD τ).loc main_v5 ↦[Finset.univ]{fullShare} (conts m).vI d) ∗ ((SparseCore.T d : Thread nD τ).loc main_v1 ↦[Finset.univ]{fullShare} (conts m).vW d)
        ∗ ((SparseCore.T d : Thread nD τ).loc main_v3 ↦[Finset.univ]{fullShare} (conts m).vT d) ∗ ((SparseCore.T d : Thread nD τ).loc main_v4 ↦[Finset.univ]{fullShare} (conts m).vB d)
        ∗ ((SparseCore.T d : Thread nD τ).loc main_v6 ↦[Finset.univ]{fullShare} (conts m).r d)) : sProp 𝕄)
      = bigSep Finset.univ fun c : Fin ((K (F := F)).nCore 0) => (P (conts m)).st 0 d c :=
  hand_split d _ _ _ _ _

/-- What the SparseCores hand back gives the five arrays, whole. -/
theorem dn_split (d : Dev nD) :
    (bigSep Finset.univ fun c : Fin ((K (F := F)).nCore 0) => (P (conts m)).dn 0 d c)
      = (iprop(((SparseCore.T d : Thread nD τ).loc main_v5 ↦[Finset.univ]{fullShare} (conts m).vI d) ∗ ((SparseCore.T d : Thread nD τ).loc main_v1 ↦[Finset.univ]{fullShare} (conts m).vW d)
        ∗ ((SparseCore.T d : Thread nD τ).loc main_v3 ↦[Finset.univ]{fullShare} (conts m).vT d) ∗ ((SparseCore.T d : Thread nD τ).loc main_v4 ↦[Finset.univ]{fullShare} (conts m).vB d)
        ∗ ((SparseCore.T d : Thread nD τ).loc main_v6 ↦[Finset.univ]{fullShare} ((conts m).out d : S16384.Idx → F .f32))) : sProp 𝕄) :=
  (hand_split d _ _ _ _ _).symm

/-- What the TensorCore call starts from. -/
theorem reg_pre (V : Vals F) (d : Dev nD) : (reg V).pre d = iprop(unscopedBufs d (V d) ∗ owesLow d) := rfl
/-- What the TensorCore call leaves. -/
theorem reg_post (V : Vals F) (d : Dev nD) : (reg V).post d = iprop(unscopedBufs d (retiled V d) ∗ owesLow d) := rfl

/-- The TensorCore call as a step of the program: from the unscoped buffers at `V`, to the same with the flat table written. -/
theorem retile_call [∀ e, Nonempty (Elt F e)] (V : Vals F) (d : Dev nD) {Q : PUnit → sProp 𝕄} :
    iprop((iprop(boundary (SparseCore.T d : Thread nD τ) ∗ unscopedBufs d (retiled V d) ∗ owesLow d) -∗ Q ⟨⟩)
        ∗ boundary (SparseCore.T d : Thread nD τ) ∗ unscopedBufs d (V d) ∗ owesLow d ∗ levAts (K (F := F)).L (K (F := F)).lev ∗ pipeGhost d)
      ⊢ wp (M := 𝕄) frame (wpE ((K (F := F)).defs (D (F := F))) 𝒱 (SparseCore.T d) none) Set.univ
          (Prog.lift (.customCall (SparseCore.inner (Pipeline.entry 0)) ())) Q := by
  have h := Pipeline.RegionSeg.wp (pcfgs (F := F)) (adm (F := F)) (pdats V) none cellOf_inj EP (defs₀ (F := F)) 𝒱₀ (K (F := F)).L (K (F := F)).lev (reg V) d none
    (fun _ h => nomatch h) .ret Q
  rw [reg_pre, reg_post, wp_ret] at h
  iintro ⟨Hk, Hb, Hu, HO, Hlev, Hg, Ht⟩
  iapply ((K (F := F)).wp_liftProg (D (F := F)) 𝒱 (SparseCore.T d) Set.univ none (.op (.customCall (Pipeline.entry 0) ()) .ret) Q)
  iapply h
  isplitl [Hk]; · iintro H; imodintro; iapply Hk; iexact H
  isplitl [Hb]; · iexact Hb
  isplitl [Hu HO]; · isplitl [Hu] <;> iassumption
  isplitl [Hlev]; · iexact Hlev
  isplitl [Hg]; · iexact Hg
  iexact Ht

/-- @main on the TensorCore: the transposition, the TensorCore call, four layout operations, the SparseCore call. -/
theorem hmain [∀ e, Nonempty (Elt F e)] (κ : GSem nD τ sig → ℕ) (d : Dev nD) :
    iprop((K (F := F)).ctx EH (P (conts m)) κ ∗ (K (F := F)).tcSt EH d 0 ∗ (K (F := F)).tcRes m ρ d ∗ pipeGhost d)
      ⊢ wp (M := 𝕄) frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d : Thread nD τ).loc b)) : sProp 𝕄) = held (SparseCore.T d : Thread nD τ) hostRefs (W0 m d) from host_held d (W0 m d)]
  simp only [main, wp_bind]
  iintro ⟨#Hctx, Hst, ⟨Hb, Hh, Hts, -⟩, Hg⟩
  ihave #Hlev := (SparseCore.Cfg.ctx_levAts κ) $$ Hctx
  iapply (wp_hlo_within 𝒱 (SparseCore.T d : Thread nD τ) none Set.univ (op := opRow) (host_sub _ (StableHlo.unary_bufs_sub ..)) (V := W0 m d)) $$ [Hb Hh]
  · isplitl [Hb] <;> iassumption
  iintro ⟨Hb, Hh⟩
  rw [wp_ret]; imodintro
  -- the TensorCore call
  ihave Hst' := (Entails.of_eq (tcSt_split d)) $$ Hst
  icases Hst' with ⟨HO, Hst⟩
  iapply (retile_call (V1 m) d)
  isplitl [Hst Hts]
  · iintro ⟨Hb, Hu, HO⟩
    ihave Hh := (Entails.of_eq (host_retiled m d)) $$ Hu
    iapply (wp_hlo_within 𝒱 (SparseCore.T d : Thread nD τ) none Set.univ (op := opTail) (host_sub _ (StableHlo.unary_bufs_sub ..)) (V := W2 m d)) $$ [Hb Hh]
    · isplitl [Hb] <;> iassumption
    iintro ⟨Hb, Hh⟩
    rw [wp_ret]; imodintro
    iapply (wp_hlo_within 𝒱 (SparseCore.T d : Thread nD τ) none Set.univ (op := opFlat) (host_sub _ (StableHlo.reshape_bufs_sub ..))) $$ [Hb Hh]
    · isplitl [Hb] <;> iassumption
    iintro ⟨Hb, Hh⟩
    rw [wp_ret]; imodintro
    iapply (wp_hlo_within 𝒱 (SparseCore.T d : Thread nD τ) none Set.univ (op := opBias) (host_sub _ (StableHlo.unary_bufs_sub ..))) $$ [Hb Hh]
    · isplitl [Hb] <;> iassumption
    iintro ⟨Hb, Hh⟩
    rw [wp_ret]; imodintro
    iapply (wp_hlo_within 𝒱 (SparseCore.T d : Thread nD τ) none Set.univ (op := opIdx) (host_sub _ (StableHlo.unary_bufs_sub ..))) $$ [Hb Hh]
    · isplitl [Hb] <;> iassumption
    iintro ⟨Hb, Hh⟩
    rw [wp_ret]; imodintro
    ihave Hu := (Entails.of_eq ((host_start m d).trans (unscoped_all d _))) $$ Hh
    icases Hu with ⟨H0, H1, H2, -, -, Hv5, Hv1, Hv3, Hv4, Hv6⟩
    ihave Hgo := (Entails.of_eq (st_split m d)) $$ [Hv5 Hv1 Hv3 Hv4 Hv6]
    · isplitl [Hv5]; · iexact Hv5
      isplitl [Hv1]; · iexact Hv1
      isplitl [Hv3]; · iexact Hv3
      isplitl [Hv4]; · iexact Hv4
      iexact Hv6
    iapply ((K (F := F)).wp_run (D (F := F)) 𝒱 (EH := EH) (P := P (conts m)) κ d 0) $$ [Hst HO Hgo H0 H1 H2 Hb Hts]
    isplitr; · iexact Hctx
    isplitl [Hst HO]
    · iapply (Entails.of_eq (tcSt_split d).symm)
      isplitl [HO] <;> iassumption
    isplitl [Hgo]; · iexact Hgo
    iintro ⟨Hst, Hdn⟩
    ihave Hv := (Entails.of_eq (dn_split m d)) $$ Hdn
    icases Hv with ⟨-, -, -, -, Hv6⟩
    rw [wp_pure]; imodintro
    isplitl [Hst]; · iexact Hst
    isplitr [Hb Hts]
    · isplitl [H0]; · rw [← W6_arg m d main_arg0 (by decide) (by decide) (by decide) (by decide) (by decide) (by decide)]; iexact H0
      isplitl [H1]; · rw [← W6_arg m d main_arg1 (by decide) (by decide) (by decide) (by decide) (by decide) (by decide)]; iexact H1
      isplitl [H2]; · rw [← W6_arg m d main_arg2 (by decide) (by decide) (by decide) (by decide) (by decide) (by decide)]; iexact H2
      iexact Hv6
    isplitl [Hb] <;> iassumption
  isplitl [Hb]; · iexact Hb
  isplitl [Hh]; · iapply (Entails.of_eq (host_held d (W1 m d)).symm); iexact Hh
  isplitl [HO]; · iexact HO
  isplitr; · iexact Hlev
  iexact Hg

end Cert.Proof

end
-- ==== Proof.Run.lean ====
/-
  The run of the whole kernel, for any float values: what it leaves.
-/
module

public import proofs.«01_k».proof.Proof.Host

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable {d : Dev nD} {L : grid1.Coords} {vI : S26x16384.Idx → BitVec 32}

variable (m : (ℓ : Loc nD τ sig) → Buf (Elt F) ℓ) (ρ : Dev nD → PrngReg)

/-- What a device's memory is at the end: the arguments as they were, the result the launch's. -/
def AtEnd (d : Dev nD) (s' : Phys nD τ sig (Elt F)) : Prop :=
  s'.mem.mem ((SparseCore.T d : Thread nD τ).loc main_arg0) = m ((SparseCore.T d : Thread nD τ).loc main_arg0)
    ∧ s'.mem.mem ((SparseCore.T d : Thread nD τ).loc main_arg1) = m ((SparseCore.T d : Thread nD τ).loc main_arg1)
    ∧ s'.mem.mem ((SparseCore.T d : Thread nD τ).loc main_arg2) = m ((SparseCore.T d : Thread nD τ).loc main_arg2)
    ∧ s'.mem.mem ((SparseCore.T d : Thread nD τ).loc main_v6) = ((conts m).out d : S16384.Idx → F .f32)

set_option maxRecDepth 16384 in
/-- What a device holds at the end says what its memory is. -/
theorem at_end (d : Dev nD) (s' : Phys nD τ sig (Elt F)) :
    (iprop(FIN m d ∗ SI s') : sProp 𝕄) ⊢ iprop(⌜AtEnd m d s'⌝) := by
  iintro ⟨⟨H0, H1, H2, H6⟩, HSI⟩
  ihave H := (persistent_entails_right (SI_pointsTo_agree (st := s') (ℓ := (SparseCore.T d : Thread nD τ).loc main_arg0) (I := Finset.univ) (q := fullShare) (f := m ((SparseCore.T d : Thread nD τ).loc main_arg0)))) $$ [HSI H0]
  · isplitl [HSI] <;> iassumption
  icases H with ⟨%h0, HSI, -⟩
  ihave H := (persistent_entails_right (SI_pointsTo_agree (st := s') (ℓ := (SparseCore.T d : Thread nD τ).loc main_arg1) (I := Finset.univ) (q := fullShare) (f := m ((SparseCore.T d : Thread nD τ).loc main_arg1)))) $$ [HSI H1]
  · isplitl [HSI] <;> iassumption
  icases H with ⟨%h1, HSI, -⟩
  ihave H := (persistent_entails_right (SI_pointsTo_agree (st := s') (ℓ := (SparseCore.T d : Thread nD τ).loc main_arg2) (I := Finset.univ) (q := fullShare) (f := m ((SparseCore.T d : Thread nD τ).loc main_arg2)))) $$ [HSI H2]
  · isplitl [HSI] <;> iassumption
  icases H with ⟨%h2, HSI, -⟩
  ihave H := (persistent_entails_right (SI_pointsTo_agree (st := s') (ℓ := (SparseCore.T d : Thread nD τ).loc main_v6) (I := Finset.univ) (q := fullShare) (f := ((conts m).out d : S16384.Idx → F .f32)))) $$ [HSI H6]
  · isplitl [HSI] <;> iassumption
  icases H with ⟨%h6, HSI, -⟩
  ipureintro
  exact ⟨funext fun i => h0 i (Finset.mem_univ i), funext fun i => h1 i (Finset.mem_univ i), funext fun i => h2 i (Finset.mem_univ i), funext fun i => h6 i (Finset.mem_univ i)⟩

/-- The end of the run on every device, the semaphores at zero. -/
def QC : PUnit × MemSt nD τ sig (Elt F) → Prop := fun r =>
  (∀ c : Dev nD,
    r.2.mem ((SparseCore.T c : Thread nD τ).loc main_v6) = ((conts m).out c : S16384.Idx → F .f32)
    ∧ r.2.mem ((SparseCore.T c : Thread nD τ).loc main_arg0) = m ((SparseCore.T c : Thread nD τ).loc main_arg0)
    ∧ r.2.mem ((SparseCore.T c : Thread nD τ).loc main_arg1) = m ((SparseCore.T c : Thread nD τ).loc main_arg1)
    ∧ r.2.mem ((SparseCore.T c : Thread nD τ).loc main_arg2) = m ((SparseCore.T c : Thread nD τ).loc main_arg2))
    ∧ r.2.sem = fun _ => 0

/-- From any memory whose indices are within their fields, every run of the kernel ends, with the result the
    launch's, the arguments unchanged and every semaphore at zero. -/
theorem run_main [∀ e, Nonempty (Elt F e)] (hC : (conts m).OK) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (conts m)) (A := ∅) facts v₀
    (fun q hq => match q with | 0 => nomatch hq) (fun q _ => match q with | 0 => tileObl (conts m) hC)
    (fun q _ => match q with | 0 => SparseCore.Cfg.VecSplit.of_plain (vecSplit (conts m)))
    m ρ main (fun d => pipeGhost d) (FIN m) (u₀ (F := F)) (sep_elim_left.trans (fund m)) (hmain m ρ)
    (AtEnd m) (at_end m) (QC m) (fun _ h hz => ⟨fun c => ⟨(h c).2.2.2, (h c).1, (h c).2.1, (h c).2.2.1⟩, hz⟩)

end Cert.Proof

end
-- ==== Proof.Contents.lean ====
/-
  What the SparseCore call reads and writes, in terms of the arguments.
-/
module

public import proofs.«01_k».proof.Proof.Host
public import Idealize.ShloMosaic.Lib.Pointwise

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable {d : Dev nD} {L : grid1.Coords} {vI : S26x16384.Idx → BitVec 32}

open Idealize.ShloMosaic.Pointwise

variable (m : (ℓ : Loc nD τ sig) → Buf (Elt F) ℓ) (ρ : Dev nD → PrngReg)

/-- The index word of row `b`, field `f`. -/
def ixA (b : Fin 16384) (f : Fin 26) : S16384x26.Idx := fun | 0 => b | 1 => f
/-- Row `n` of the table (no row met is changed by the reduction). -/
def ixE (n : ℕ) : S2600000x1.Idx := fun | 0 => ⟨n % 2600000, Nat.mod_lt _ (by decide)⟩ | 1 => ⟨0, Nat.one_pos⟩
/-- The bias's one place. -/
def ix0 : S1.Idx := fun | 0 => ⟨0, Nat.one_pos⟩

/-- Equal numbers give equal indices of the flat table. -/
theorem ixE_congr {a b : ℕ} (h : a = b) : ixE a = ixE b := h ▸ rfl

/-- The indices at launch. -/
abbrev argI (d : Dev nD) : S16384x26.Idx → BitVec 32 := m ((SparseCore.T d : Thread nD τ).loc main_arg0)
/-- The table at launch. -/
abbrev argW (d : Dev nD) : S2600000x1.Idx → F .f32 := m ((SparseCore.T d : Thread nD τ).loc main_arg1)
/-- The bias at launch. -/
abbrev argB (d : Dev nD) : S1.Idx → F .f32 := m ((SparseCore.T d : Thread nD τ).loc main_arg2)

/-- An argument is what it was at launch when the TensorCore call is over. -/
theorem W2_arg (d : Dev nD) (b : Ref sig .tc) (h0 : b ≠ main_v0) (h1 : b ≠ main_v1) :
    W2 m d (Proc.devRef .tc b) = m ((SparseCore.T d : Thread nD τ).loc b) := by
  unfold W2
  rw [Function.update_of_ne (fun e => h1 (Proc.devRef_injective _ e))]
  unfold W1
  rw [StableHlo.unary_result_ne _ _ _ _ _ _ h0]
  rfl

/-- The SparseCore call reads the indices with the fields first. -/
theorem vI_at (d : Dev nD) (i : Fin 26) (j : Fin 16384) : (conts m).vI d (ixI i j) = argI m d (ixA j i) := by
  show (W6 m d (Proc.devRef .tc main_v5) : S26x16384.Idx → BitVec 32) (ixI i j) = _
  unfold W6
  rw [StableHlo.unary_result, StableHlo.unary_result_ne _ _ _ _ _ _ (by decide), StableHlo.reshape_result_ne _ _ _ _ _ _ _ (by decide),
    StableHlo.unary_result_ne _ _ _ _ _ _ (by decide), W2_arg m d main_arg0 (by decide) (by decide)]
  refine transpose_apply _ _ _ _ (ixA j i) fun b => ?_
  match b with
  | 0 => rfl
  | 1 => rfl

/-- The transposed table's words. -/
theorem rowAt_at (d : Dev nD) (n : ℕ) : rowAt (V1 m) d n = argW m d (ixE n) := by
  show (W1 m d (Proc.devRef .tc main_v0) : S1x2600000.Idx → F .f32) (ixR n) = _
  unfold W1
  rw [StableHlo.unary_result]
  refine (transpose_apply _ _ _ _ (ixE n) fun b => ?_).trans rfl
  match b with
  | 0 => rfl
  | 1 => rfl

/-- The flat table holds the table's rows. -/
theorem vW_at (d : Dev nD) (x : S2599936.Idx) : (conts m).vW d x = argW m d (ixE (x 0).val) := by
  show (W6 m d (Proc.devRef .tc main_v1) : S2599936.Idx → F .f32) x = _
  unfold W6
  rw [StableHlo.unary_result_ne _ _ _ _ _ _ (by decide), StableHlo.unary_result_ne _ _ _ _ _ _ (by decide), StableHlo.reshape_result_ne _ _ _ _ _ _ _ (by decide),
    StableHlo.unary_result_ne _ _ _ _ _ _ (by decide)]
  unfold W2
  rw [Function.update_self]
  exact rowAt_at m d _

/-- The tail table holds the table's last sixty-four rows. -/
theorem vT_at (d : Dev nD) (n : ℕ) (hn : n < 64) : (conts m).vT d (ixT n) = argW m d (ixE (2599936 + n)) := by
  show (W6 m d (Proc.devRef .tc main_v3) : S64.Idx → F .f32) (ixT n) = _
  unfold W6
  rw [StableHlo.unary_result_ne _ _ _ _ _ _ (by decide), StableHlo.unary_result_ne _ _ _ _ _ _ (by decide), StableHlo.reshape_result,
    StableHlo.unary_result, W2_arg m d main_arg1 (by decide) (by decide)]
  refine (shapeCast_apply _ _ _ ((fun | 0 => ⟨n, hn⟩ | 1 => ⟨0, Nat.one_pos⟩ : S64x1.Idx)) ?_).trans ?_
  · refine (rowMajor_val2 _ 1 rfl).trans (Eq.trans ?_ (rowMajor_val1 (ixT n)).symm)
    show n * 1 + 0 = n % 64
    omega
  · refine extractStridedSlice_apply _ _ _ _ (ixE (2599936 + n)) fun a => ?_
    match a with
    | 0 => exact Nat.mod_eq_of_lt (by omega)
    | 1 => rfl

/-- Every copy of the bias is the bias. -/
theorem vB_at (d : Dev nD) (x : S16.Idx) : (conts m).vB d x = argB m d ix0 := by
  show (W6 m d (Proc.devRef .tc main_v4) : S16.Idx → F .f32) x = _
  unfold W6
  rw [StableHlo.unary_result_ne _ _ _ _ _ _ (by decide), StableHlo.unary_result, StableHlo.reshape_result_ne _ _ _ _ _ _ _ (by decide),
    StableHlo.unary_result_ne _ _ _ _ _ _ (by decide), W2_arg m d main_arg2 (by decide) (by decide)]
  refine broadcastInDim_apply _ _ _ _ ix0 fun a => ?_
  match a with
  | 0 => rfl

/-! ## The words a row reads -/

/-- Every index is within its field. -/
def InField : Prop := ∀ d i, (argI m d i).toNat < 100000

/-- Where every index is within its field, the contents meet what the run asks. -/
theorem ok_of_inField (h : InField m) : (conts m).OK := fun d j => by
  have e : j = ixI (j 0) (j 1) := funext fun a => match a with | 0 => rfl | 1 => rfl
  have hv := h d (ixA (j 1) (j 0))
  rw [← vI_at m d (j 0) (j 1)] at hv
  rw [e]
  exact hv

/-- The table's word for field `f` of row `b`. -/
def word (d : Dev nD) (b : Fin 16384) (f : Fin 26) : F .f32 := argW m d (ixE ((argI m d (ixA b f)).toNat + f.val * 100000))

variable (b : Fin 16384)

/-- The list's word for field `f` of row `b`, in the tile that computes the row. -/
theorem rawN_at (d : Dev nD) (f : Fin 26) : rawN ((conts m).vI d) (tileOf b.val) (512 * f.val + b.val % 512) = argI m d (ixA b f) := by
  unfold rawN
  have hb := b.isLt
  have hf := f.isLt
  have h0 : rb (tileOf b.val) = 1024 * (b.val / 1024 % 16) + 512 * (b.val / 512 % 2) := rfl
  rw [vI_at]
  refine congrArg (argI m d) (congrArg₂ ixA (Fin.ext ?_) (Fin.ext ?_))
  · show (rb (tileOf b.val) + (512 * f.val + b.val % 512) % 512) % 16384 = b.val
    rw [h0]; omega
  · show (512 * f.val + b.val % 512) / 512 % 26 = f.val
    omega

/-- For every field but the last the gathered word is the table's. -/
theorem gatN_at (h : InField m) (d : Dev nD) (f : Fin 26) (hv : (argI m d (ixA b f)).toNat + f.val * 100000 ≤ 2599935) :
    gatN ((conts m).vI d) ((conts m).vW d) (tileOf b.val) (512 * f.val + b.val % 512) = word m d b f := by
  unfold gatN word
  rw [rawN_at, vW_at]
  refine congrArg (argW m d) (ixE_congr ?_)
  have hf := f.isLt
  have e : (512 * f.val + b.val % 512) / 512 = f.val := by omega
  rw [e]
  show min _ 2599935 % 2599936 = _
  rw [Nat.min_eq_left hv]
  omega

/-- The last word added is the table's. -/
theorem lastW_at (h : InField m) (d : Dev nD) :
    lastW ((conts m).vI d) ((conts m).vW d) ((conts m).vT d) (tileOf b.val) (b.val % 512) = word m d b 25 := by
  have hr := rawN_at m b d 25
  have hg := gatN_at m b h d 25
  have hv := h d (ixA b 25)
  change rawN _ _ (12800 + b.val % 512) = _ at hr
  change _ → gatN _ _ _ (12800 + b.val % 512) = _ at hg
  unfold lastW
  rw [hr]
  split
  · next hc =>
    rw [vT_at m d _ (by omega)]
    refine congrArg (argW m d) (ixE_congr ?_)
    show _ = _ + 25 * 100000
    omega
  · next hc =>
    refine hg ?_
    show _ + 25 * 100000 ≤ _
    omega

/-- `a` plus the words of the first `k` fields, in order. -/
def addWords (d : Dev nD) (a : F .f32) : ℕ → F .f32
  | 0 => a
  | k + 1 => FloatOps.addf (addWords d a k) (word m d b ⟨k % 26, Nat.mod_lt _ (by decide)⟩)

/-- The kernel's sum over the first `k` of the 25 leading fields, at row `b`, is the sum of the table's words for them. -/
theorem addFields_at (h : InField m) (d : Dev nD) (a : F .f32) : ∀ k, k ≤ 25 →
    addFields ((conts m).vI d) ((conts m).vW d) (tileOf b.val) (b.val % 512) a 0 k = addWords m b d a k
  | 0, _ => rfl
  | k + 1, hk => by
    have e : k % 26 = k := Nat.mod_eq_of_lt (by omega)
    have hv := h d (ixA b ⟨k % 26, Nat.mod_lt _ (by decide)⟩)
    have hg := gatN_at m b h d ⟨k % 26, Nat.mod_lt _ (by decide)⟩ (by show _ + k % 26 * 100000 ≤ _; omega)
    show FloatOps.addf (addFields _ _ _ _ a 0 k) (gatN _ _ _ (512 * (0 + k) + b.val % 512)) = FloatOps.addf (addWords m b d a k) _
    rw [addFields_at h d a k (by omega), ← hg]
    refine congrArg (FloatOps.addf _) (congrArg (gatN _ _ _) ?_)
    show _ = 512 * (k % 26) + _
    rw [e, Nat.zero_add]

/-- Row `b` of the kernel's result: the logistic function of the bias plus the row's twenty-six words. -/
theorem out_at (h : InField m) (d : Dev nD) (x : S16384.Idx) : (conts m).out d x
    = FloatOps.divf (Scalar.ofBits .f32 0x3F800000#32) (FloatOps.addf (Scalar.ofBits .f32 0x3F800000#32)
      (FloatOps.exp (FloatOps.subf (Scalar.ofBits .f32 0x00000000#32)
        (FloatOps.addf (addWords m (x 0) d (argB m d ix0) 25) (word m d (x 0) 25))))) := by
  show outN _ _ _ _ (tileOf (x 0).val) ((x 0).val % 512) = _
  unfold outN
  rw [vB_at, addFields_at m (x 0) h d _ 25 (Nat.le_refl _), lastW_at m (x 0) h d]

end Cert.Proof

end
-- ==== Proof.Reference.lean ====
/-
  What the reference leaves, for indices within their fields: the logistic function of the bias plus a row's twenty-six words.
-/
module

public import proofs.«01_k».proof.Proof.Gen.ReferenceIdeal.Run
public import Idealize.ShloMosaic.Lib.Pipeline.Value
public import Idealize.ShloMosaic.Lib.ReduceAll
public import Idealize.ShloMosaic.Lib.Pointwise
public import Idealize.ShloMosaic.PureOps.Ideal

@[expose] public section

noncomputable section

namespace Cert.Proof.Ref

open Cert.ReferenceIdeal Cert.ReferenceIdeal.Gen
open Idealize.ShloMosaic Idealize.ShloMosaic.TcCoe Idealize.SL.Sem

/-- The index word of row `b`, field `f`. -/
def ixA (b : Fin 16384) (f : Fin 26) : S16384x26.Idx := fun | 0 => b | 1 => f
/-- The same place in an array with a last axis of one. -/
def ixA1 (b : Fin 16384) (f : Fin 26) : S16384x26x1.Idx := fun | 0 => b | 1 => f | 2 => ⟨0, Nat.one_pos⟩
/-- Row `n` of the table (no row met is changed by the reduction). -/
def ixE (n : ℕ) : S2600000x1.Idx := fun | 0 => ⟨n % 2600000, Nat.mod_lt _ (by decide)⟩ | 1 => ⟨0, Nat.one_pos⟩
/-- The bias's one place. -/
def ix0 : S1.Idx := fun | 0 => ⟨0, Nat.one_pos⟩

/-- An index of the gather's starts is built from its row and its field. -/
theorem eq_ixA1 (i : S16384x26x1.Idx) : i = ixA1 (i 0) (i 1) := funext fun a => match a with
  | 0 => rfl
  | 1 => rfl
  | 2 => Fin.ext (by have h : (i 2).val < 1 := (i 2).isLt; show (i 2).val = 0; omega)

variable (a : S16384x26.Idx → BitVec 32)

/-- The positions in the table: the index plus its field's first row. -/
def pos : S16384x26.Idx → BitVec 32 :=
  addi a (broadcastInDim S16384x26 ![0, 1] bcast_S1x26_S16384x26_0_1 (broadcastInDim S1x26 ![1] bcast_S26_S1x26_1
    (muli (iotaInDim S26 32 0) (broadcastInDim S26 ![] bcast_S_S26 (constantI S_ 32 100000#32)))))

/-- The positions with the negative ones counted from the end. -/
def starts : S16384x26x1.Idx → BitVec 32 :=
  broadcastInDim S16384x26x1 ![0, 1] bcast_S16384x26_S16384x26x1_0_1
    (select (cmpi .slt (pos a) (broadcastInDim S16384x26 ![] bcast_S_S16384x26 (constantI S_ 32 0#32)))
      (addi (pos a) (broadcastInDim S16384x26 ![] bcast_S_S16384x26 (constantI S_ 32 2600000#32))) (pos a))

/-- Which positions are rows of the table. -/
def inRange : S16384x26x1.Idx → BitVec 1 :=
  andi (cmpi .sge (starts a) (broadcastInDim S16384x26x1 ![] bcast_S_S16384x26x1 (constantI S_ 32 0#32)))
    (cmpi .sle (starts a) (broadcastInDim S16384x26x1 ![0, 1, 2] bcast_S1x1x1_S16384x26x1_0_1_2 (broadcastInDim S1x1x1 ![2] bcast_S1_S1x1x1_2 (constantI S1 32 2599999#32))))

/-- The reference's position is the index plus the field's offset, as words. -/
theorem pos_eq (b : Fin 16384) (f : Fin 26) : pos a (ixA b f) = a (ixA b f) + BitVec.ofNat 32 f.val * 100000#32 := by
  show a (ixA b f) + _ = _
  refine congrArg (a (ixA b f) + ·) ?_
  refine (broadcastInDim_apply _ _ _ _ ((fun | 0 => ⟨0, Nat.one_pos⟩ | 1 => f : S1x26.Idx)) fun x => ?_).trans
    ((broadcastInDim_apply _ _ _ _ ((fun | 0 => f : S26.Idx)) fun x => ?_).trans rfl)
  · match x with
    | 0 => rfl
    | 1 => rfl
  · match x with
    | 0 => rfl

section Within
variable (h : ∀ i, (a i).toNat < 100000)
include h

/-- The same as numbers: nothing wraps. -/
theorem pos_toNat (b : Fin 16384) (f : Fin 26) : (pos a (ixA b f)).toNat = (a (ixA b f)).toNat + f.val * 100000 := by
  have hv := h (ixA b f)
  have hf := f.isLt
  rw [pos_eq, BitVec.toNat_add, BitVec.toNat_mul, BitVec.toNat_ofNat, BitVec.toNat_ofNat]
  omega

/-- The gather starts at the position, since it is not negative. -/
theorem starts_at (b : Fin 16384) (f : Fin 26) : starts a (ixA1 b f) = pos a (ixA b f) := by
  have hp := pos_toNat a h b f
  have hv := h (ixA b f)
  have hf := f.isLt
  unfold starts
  refine (broadcastInDim_apply _ _ _ _ (ixA b f) fun x => ?_).trans ?_
  · match x with
    | 0 => rfl
    | 1 => rfl
  · show (if IntOp.cmpi .slt (pos a (ixA b f)) 0#32 = 1#1 then _ else pos a (ixA b f)) = _
    rw [if_neg]
    intro e
    have e' : (pos a (ixA b f)).slt 0#32 = true := by
      cases hs : (pos a (ixA b f)).slt 0#32
      · exact absurd (show BitVec.ofBool ((pos a (ixA b f)).slt 0#32) = 1#1 from e) (by rw [hs]; decide)
      · rfl
    rw [BitVec.slt_eq_decide, decide_eq_true_eq, BitVec.toInt_eq_toNat_cond, hp] at e'
    simp only [BitVec.toInt_zero] at e'
    split at e' <;> omega

/-- Every position is found to be in range. -/
theorem inRange_one (i : S16384x26x1.Idx) : inRange a i = 1#1 := by
  rw [eq_ixA1 i]
  generalize i 0 = b
  generalize i 1 = f
  have hp := pos_toNat a h b f
  have hv := h (ixA b f)
  have hf : f.val < 26 := f.isLt
  show IntOp.andi (BitVec.ofBool ((0#32).sle (starts a (ixA1 b f)))) (BitVec.ofBool ((starts a (ixA1 b f)).sle 2599999#32)) = 1#1
  rw [starts_at a h b f]
  have h1 : (0#32).sle (pos a (ixA b f)) = true := by
    rw [BitVec.sle_eq_decide, decide_eq_true_eq, BitVec.toInt_eq_toNat_cond (pos a (ixA b f)), hp, BitVec.toInt_zero]
    split <;> omega
  have h2 : (pos a (ixA b f)).sle 2599999#32 = true := by
    rw [BitVec.sle_eq_decide, decide_eq_true_eq, BitVec.toInt_eq_toNat_cond (pos a (ixA b f)), hp, show (2599999#32).toInt = 2599999 by decide]
    split <;> omega
  rw [h1, h2]
  rfl

end Within

/-- The table's rows taken at a list of positions, each clamped to the table. -/
theorem taken {α : Type} (x : S2600000x1.Idx → α) (idx : IVec S16384x26x1 32) (b : Fin 16384) (f : Fin 26) :
    Host.gather gather_S2600000x1_S16384x26x1_S16384x26x1_2_0_n_n_0_2_11 x idx (ixA1 b f) = x (ixE (min (idx (ixA1 b f)).toInt.toNat 2599999)) := by
  unfold Host.gather
  refine congrArg x (funext fun c => Fin.ext ?_)
  match c with
  | ⟨1, hc⟩ =>
    refine Nat.lt_one_iff.mp ?_ |>.trans rfl
    exact Fin.isLt _
  | ⟨0, hc⟩ =>
    show gather_S2600000x1_S16384x26x1_S16384x26x1_2_0_n_n_0_2_11.start (ixA1 b f) idx 0
        + gather_S2600000x1_S16384x26x1_S16384x26x1_2_0_n_n_0_2_11.batchCoord (ixA1 b f) 0
        + gather_S2600000x1_S16384x26x1_S16384x26x1_2_0_n_n_0_2_11.offCoord (ixA1 b f) 0 = min (idx (ixA1 b f)).toInt.toNat 2599999 % 2600000
    rw [GatherDims.batchCoord_eq_zero _ _ _ List.not_mem_nil,
      GatherDims.offCoord_eq_zero _ _ _ (fun e => ((GatherDims.mem_sKept _ _).mp e).1 (List.mem_singleton.mpr rfl)), Nat.add_zero]
    unfold GatherDims.start
    rw [dif_pos (show (0 : Fin 2) ∈ gather_S2600000x1_S16384x26x1_S16384x26x1_2_0_n_n_0_2_11.startIndexMap from List.mem_singleton.mpr rfl)]
    have hs : gather_S2600000x1_S16384x26x1_S16384x26x1_2_0_n_n_0_2_11.siIdx (ixA1 b f)
        ⟨List.idxOf (0 : Fin 2) gather_S2600000x1_S16384x26x1_S16384x26x1_2_0_n_n_0_2_11.startIndexMap, List.idxOf_lt_length_iff.2 (List.mem_singleton.mpr rfl)⟩
        = ixA1 b f := by
      funext c
      refine Fin.ext ?_
      match c with
      | 0 => rfl
      | 1 => rfl
      | 2 => rfl
    rw [hs, Nat.mod_eq_of_lt (by omega)]
    rfl

/-- The words the reference adds. -/
def taken26 (W : S2600000x1.Idx → Ideal .f32) : S16384x26x1.Idx → Ideal .f32 :=
  select (broadcastInDim S16384x26x1 ![0, 1] bcast_S16384x26_S16384x26x1_0_1 (Host.reduce IntOp.andi (inRange a) (constantI S_ 1 1#1) reducesTo_S16384x26x1_S16384x26_d2 h_S_))
    (Host.gather gather_S2600000x1_S16384x26x1_S16384x26x1_2_0_n_n_0_2_11 W (starts a))
    (broadcastInDim S16384x26x1 ![] bcast_S_S16384x26x1 (constant S_ .f32 0x7FC00000#32))

/-- Each word added is the table's at the field's first row plus the index. -/
theorem taken26_at (h : ∀ i, (a i).toNat < 100000) (W : S2600000x1.Idx → Ideal .f32) (b : Fin 16384) (f : Fin 26) :
    taken26 a W (ixA1 b f) = W (ixE ((a (ixA b f)).toNat + f.val * 100000)) := by
  have hp := pos_toNat a h b f
  have hv := h (ixA b f)
  have hf := f.isLt
  unfold taken26
  refine (Scalar.select_of_eq_one ?_ _ _).trans ?_
  · refine (broadcastInDim_apply _ _ _ _ (ixA b f) fun x => ?_).trans (Host.reduce_andi_one _ _ _ _ _ rfl (inRange_one a h))
    match x with
    | 0 => rfl
    | 1 => rfl
  · rw [taken, starts_at a h, BitVec.toInt_eq_toNat_cond, hp, if_pos (by omega)]
    refine congrArg W (congrArg ixE ?_)
    omega

/-- The reference's result, as a function of its arguments. -/
def refV (a : S16384x26.Idx → BitVec 32) (W : S2600000x1.Idx → Ideal .f32) (B : S1.Idx → Ideal .f32) : S16384.Idx → Ideal .f32 :=
  shapeCast _ (Host.divf (broadcastInDim S16384x1 ![] bcast_S_S16384x1 (constant S_ .f32 0x3F800000#32))
    (addf (broadcastInDim S16384x1 ![] bcast_S_S16384x1 (constant S_ .f32 0x3F800000#32))
      (Host.exp (Host.negf (addf (Host.reduceAdd (taken26 a W) (constant S_ .f32 0x00000000#32) reducesTo_S16384x26x1_S16384x1_d1 h_S_)
        (broadcastInDim S16384x1 ![0, 1] bcast_S1x1_S16384x1_0_1 (broadcastInDim S1x1 ![1] bcast_S1_S1x1_1 B)))))))
    shapeCasts_S16384x1_S16384

/-- The printed value of the reference's result is the function of its three arguments. -/
theorem res_eq (m : (ℓ : Loc nD τ sig) → Buf (Elt Ideal) ℓ) (c : Dev nD) :
    Value.res_main_v17 m c = refV (m ((c.tc : Thread nD τ).loc main_arg0)) (m ((c.tc : Thread nD τ).loc main_arg1)) (m ((c.tc : Thread nD τ).loc main_arg2)) := by
  unfold Value.res_main_v17
  rfl

/-- The reference's result at row `x`. -/
theorem ref_at (h : ∀ i, (a i).toNat < 100000) (W : S2600000x1.Idx → EReal) (B : S1.Idx → EReal) (x : S16384.Idx) :
    refV a W B x = FloatOps.hostDivf (F := Ideal) (φ := .f32) (Scalar.ofBits .f32 0x3F800000#32)
      (FloatOps.addf (F := Ideal) (φ := .f32) (Scalar.ofBits .f32 0x3F800000#32)
        (FloatOps.hostUnary (F := Ideal) (φ := .f32) .exp (FloatOps.hostNegf (F := Ideal) (φ := .f32) (FloatOps.addf (F := Ideal) (φ := .f32)
          ((Scalar.ofBits .f32 0x00000000#32 : Ideal .f32) + ∑ k : Fin 26, W (ixE ((a (ixA (x 0) k)).toNat + k.val * 100000)) : EReal)
          (B ix0))))) := by
  unfold refV
  refine (shapeCast_apply _ _ _ ((fun | 0 => x 0 | 1 => ⟨0, Nat.one_pos⟩ : S16384x1.Idx)) ?_).trans ?_
  · refine (rowMajor_val2 _ 1 rfl).trans (Eq.trans ?_ (rowMajor_val1 x).symm)
    show (x 0).val * 1 + 0 = (x 0).val
    omega
  · refine congrArg (FloatOps.hostDivf (F := Ideal) (φ := .f32) _) (congrArg (FloatOps.addf (F := Ideal) (φ := .f32) _)
      (congrArg (FloatOps.hostUnary (F := Ideal) (φ := .f32) .exp) (congrArg (FloatOps.hostNegf (F := Ideal) (φ := .f32))
        (congrArg₂ (FloatOps.addf (F := Ideal) (φ := .f32)) ?_ ?_))))
    · rw [Host.reduceAdd_apply]
      refine (Ideal.hostReduceAdd_r3_a1 _ _ _ _).trans (congrArg (_ + ·) (Finset.sum_congr rfl fun k _ => ?_))
      refine (congrArg (taken26 a W) (eq_ixA1 _)).trans (taken26_at a h W (x 0) k)
    · refine (broadcastInDim_apply _ _ _ _ ((fun | 0 => ⟨0, Nat.one_pos⟩ | 1 => ⟨0, Nat.one_pos⟩ : S1x1.Idx)) fun y => ?_).trans
        (broadcastInDim_apply _ _ _ _ ix0 fun y => ?_)
      · match y with
        | 0 => rfl
        | 1 => rfl
      · match y with
        | 0 => rfl

end Cert.Proof.Ref

end
-- ==== Proof.Values.lean ====
/-
  The kernel and the reference compute the same values.
-/
module

public import proofs.«01_k».proof.Proof.Contents
public import proofs.«01_k».proof.Proof.Reference
public import proofs.«01_k».proof.Proof.Gen.Pre_in_field

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable {d : Dev nD} {L : grid1.Coords} {vI : S26x16384.Idx → BitVec 32}

variable (m : (ℓ : Loc nD τ sig) → Buf (Elt F) ℓ)

/-- The conjunction of two one-bit words is that of the truth values. -/
theorem andi_ofBool : ∀ p q : Bool, IntOp.andi (BitVec.ofBool p) (BitVec.ofBool q) = BitVec.ofBool (p && q) := by decide

/-- A one-bit word is one only for true. -/
theorem ofBool_eq_one : ∀ p : Bool, BitVec.ofBool p = 1#1 → p = true := by decide

instance : Subsingleton Cert.Pre_in_field.S_.Idx := ⟨fun _ _ => funext fun a => Fin.elim0 a⟩

/-- The precondition says that every index is within its field. -/
theorem field_of_pre (a : Cert.Pre_in_field.S16384x26.Idx → BitVec 32) (W : Cert.Pre_in_field.S2600000x1.Idx → F .f32)
    (B : Cert.Pre_in_field.S1.Idx → F .f32) (h : Cert.Pre_in_field.fn (F := F) a W B = fun _ => 1#1)
    (i : Cert.Pre_in_field.S16384x26.Idx) : (a i).toNat < 100000 := by
  unfold Cert.Pre_in_field.fn at h
  have e := Host.reduce_andi_all (t := Cert.Pre_in_field.S_) _ _ _ _ (fun x => Fin.elim0 x) (congrFun h (fun x => Fin.elim0 x)) i
  change IntOp.andi (BitVec.ofBool ((0#32).sle (a i))) (BitVec.ofBool ((a i).slt 100000#32)) = 1#1 at e
  rw [andi_ofBool] at e
  have e' := ofBool_eq_one _ e
  rw [Bool.and_eq_true, BitVec.sle_eq_decide, BitVec.slt_eq_decide, decide_eq_true_eq, decide_eq_true_eq, BitVec.toInt_eq_toNat_cond (a i),
    show (100000#32).toInt = 100000 by decide, BitVec.toInt_zero] at e'
  obtain ⟨e1, e2⟩ := e'
  have hlt := (a i).isLt
  split at e1 <;> omega

/-! ## The two results agree -/

section Values
variable (m : (ℓ : Loc nD τ sig) → Buf (Elt Ideal) ℓ)

/-- Adding the first `k` words one at a time is adding their sum. -/
theorem addWords_sum (d : Dev nD) (b : Fin 16384) (a : EReal) : ∀ k, k ≤ 26 →
    (addWords m b d a k : EReal) = a + ∑ j ∈ Finset.range k, (word m d b ⟨j % 26, Nat.mod_lt _ (by decide)⟩ : EReal)
  | 0, _ => by
    show a = _
    rw [Finset.range_zero, Finset.sum_empty, add_zero]
  | k + 1, hk => by
    show (addWords m b d a k : EReal) + _ = _
    rw [addWords_sum d b a k (by omega), Finset.sum_range_succ, add_assoc]

/-- The bias and the twenty-six words, added in the kernel's order, make the reference's sum. -/
theorem total (d : Dev nD) (b : Fin 16384) (a : EReal) :
    (addWords m b d a 25 : EReal) + (word m d b 25 : EReal) = (0 + ∑ k : Fin 26, (word m d b k : EReal)) + a := by
  have h := addWords_sum m d b a 26 (Nat.le_refl _)
  change (addWords m b d a 25 : EReal) + (word m d b 25 : EReal) = _ at h
  rw [h, Finset.sum_range, zero_add, add_comm]
  refine congrArg (· + a) (Finset.sum_congr rfl fun k _ => ?_)
  exact congrArg (word m d b) (Fin.ext (Nat.mod_eq_of_lt k.isLt))

/-- The kernel's result is the reference's. -/
theorem out_eq (h : InField m) (d : Dev nD) : ((conts m).out d : S16384.Idx → Ideal .f32) = Ref.refV (argI m d) (argW m d) (argB m d) := by
  funext x
  rw [out_at m h d x]
  refine Eq.trans ?_ (Ref.ref_at (argI m d) (h d) (argW m d) (argB m d) x).symm
  refine congrArg (FloatOps.divf (F := Ideal) (φ := .f32) _) (congrArg (FloatOps.addf (F := Ideal) (φ := .f32) _)
    (congrArg (FloatOps.exp (F := Ideal) (φ := .f32)) ?_))
  show (Ideal.ofBits .f32 0x00000000#32 : EReal) - ((addWords m (x 0) d (argB m d ix0) 25 : EReal) + (word m d (x 0) 25 : EReal))
    = -((Ideal.ofBits .f32 0x00000000#32 + ∑ k : Fin 26, (word m d (x 0) k : EReal)) + argB m d ix0)
  rw [Ideal.ofBits_zero_f32]
  exact (zero_sub _).trans (congrArg (- ·) (total m d (x 0) _))

end Values

end Cert.Proof

end
-- ==== Proof.lean ====
/-
  The proof of the five claims: the kernel runs, and as an ideal program it leaves what the reference leaves.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_field
public import proofs.«01_k».proof.Proof.Run
public import proofs.«01_k».proof.Proof.Values
public import Idealize.ShloMosaic.Adequacy
public import Idealize.ShloMosaic.Init

@[expose] public section

noncomputable section

namespace Cert.Proof

open Idealize.ShloMosaic Idealize.SL.Sem

/-- A memory of the kernel at words that the precondition allows has every index within its field. -/
theorem inField_bits (m : (ℓ : Loc Cert.KernelIdeal.nD Cert.KernelIdeal.τ Cert.KernelIdeal.sig) → Buf (Elt Bits) ℓ)
    (h : Cert.Pre_Kernel m) : InField (F := Bits) m := fun d i => field_of_pre _ _ _ (h d) i

/-- The same of the ideal kernel. -/
theorem inField_ideal (m : (ℓ : Loc Cert.KernelIdeal.nD Cert.KernelIdeal.τ Cert.KernelIdeal.sig) → Buf (Elt Ideal) ℓ)
    (h : Cert.Pre_KernelIdeal m) : InField (F := Ideal) m := fun d i => field_of_pre _ _ _ (h d) i

/-- The kernel and the ideal kernel have the same bodies. -/
theorem bodies_eq {F : FTy → Type} [FloatOps F] : Cert.Kernel.defs₀ (F := F) = Cert.KernelIdeal.defs₀ (F := F) := by
  funext p ℓ a
  match p, ℓ, a with
  | .tc, 0, (t, s) => rfl
  | .tc, 1, _ => rfl
  | .scScalar _, 0, _ => rfl
  | .scScalar _, 1, _ => rfl
  | .scVector _ _, 0, _ => rfl
  | .scVector _ _, 1, _ => rfl

/-- The kernel and the ideal kernel have the same tables of bodies. -/
theorem tables_eq {F : FTy → Type} [FloatOps F] : Cert.Kernel.defs (F := F) = Cert.KernelIdeal.defs (F := F) := by
  unfold Cert.Kernel.defs Cert.KernelIdeal.defs
  rw [bodies_eq]
  rfl

/-- The kernel's frame: it ends, with its arguments unchanged and every semaphore at zero. -/
theorem frame_kernel : Cert.quiescent_Kernel := by
  intro m ρ h
  rw [tables_eq]
  exact (θ_run (Cert.KernelIdeal.defs (F := Bits)) (Cert.KernelIdeal.threads (F := Bits)) _).mono
    (fun r (h : QC (F := Bits) m r) => And.intro (fun c => (h.1 c).2) h.2)
    (run_main (F := Bits) m ρ (ok_of_inField m (inField_bits m h)))

/-- The ideal kernel's frame. -/
theorem frame_ideal : Cert.quiescent_KernelIdeal := fun m ρ h =>
  (θ_run Cert.KernelIdeal.defs _ _).mono (fun _ h => ⟨fun c => (h.1 c).2, h.2⟩)
    (run_main (F := Ideal) m ρ (ok_of_inField m (inField_ideal m h)))

/-- The reference's frame: it ends, with its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_reference_in_field : Cert.quiescent_ReferenceIdeal_pre_in_field := fun m ρ _ => frame_reference m ρ trivial

/-- The ideal kernel and the reference, from the same arguments, end with the same result. -/
theorem algebraic : Cert.algebraic_KernelIdeal_ReferenceIdeal := by
  intro m ρ m' ρ' h hargs
  have hf := inField_ideal m h
  refine ⟨fun c => (conts m).out c, (θ_run Cert.KernelIdeal.defs _ _).mono (fun _ h c => h.1 c) (run_main (F := Ideal) m ρ (ok_of_inField m hf)), ?_⟩
  refine (θ_run Cert.ReferenceIdeal.defs _ _).mono (fun _ h c => ⟨((h c).1.trans (Ref.res_eq m' c)).trans ?_, (h c).2⟩)
    (Cert.ReferenceIdeal.Value.run (F := Ideal) m' ρ')
  rw [(hargs c).1, (hargs c).2.1, (hargs c).2.2]
  exact (out_eq m hf c).symm

/-- Everything claimed. -/
theorem claim : Cert.Claim := ⟨Cert.Kernel.Gen.facts, Cert.KernelIdeal.Gen.facts, Cert.ReferenceIdeal.Gen.facts, Cert.Pre_in_field.Gen.facts,
  frame_kernel, frame_ideal, frame_reference, frame_reference_in_field, trivial, algebraic⟩

end Cert.Proof

end
